-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Main (m : (ℓ : Loc Cert.Main.nD Cert.Main.τ Cert.Main.sig) → Buf (Elt Bits) ℓ) : Prop :=
  True

def Pre_MainIdeal (m : (ℓ : Loc Cert.MainIdeal.nD Cert.MainIdeal.τ Cert.MainIdeal.sig) → Buf (Elt Ideal) ℓ) : Prop :=
  True

def Pre_MainReferenceIdeal (m : (ℓ : Loc Cert.MainReferenceIdeal.nD Cert.MainReferenceIdeal.τ Cert.MainReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentReferenceIdeal (m : (ℓ : Loc Cert.LatentReferenceIdeal.nD Cert.LatentReferenceIdeal.τ Cert.LatentReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Entry (m : (ℓ : Loc Cert.Entry.nD Cert.Entry.τ Cert.Entry.sig) → Buf (Elt Bits) ℓ) : Prop :=
  True

def Pre_EntryIdeal (m : (ℓ : Loc Cert.EntryIdeal.nD Cert.EntryIdeal.τ Cert.EntryIdeal.sig) → Buf (Elt Ideal) ℓ) : Prop :=
  True

def Pre_EntryReferenceIdeal (m : (ℓ : Loc Cert.EntryReferenceIdeal.nD Cert.EntryReferenceIdeal.τ Cert.EntryReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Main [hMain : Cert.Main.Facts] : Prop :=
  ∀ (m : (ℓ : Loc Cert.Main.nD Cert.Main.τ Cert.Main.sig) → Buf (Elt Bits) ℓ) (g : Dev Cert.Main.nD → PrngReg), Pre_Main m →
    θ_run (Cert.Main.defs (F := Bits)) (onTc (τ := Cert.Main.τ) (Cert.Main.main (F := Bits))) ⟨m, fun _ => 0, g⟩ (fun r => (∀ c : Dev Cert.Main.nD,
      r.2.mem ((c.tc : Thread Cert.Main.nD Cert.Main.τ).loc Cert.Main.main_arg0) = m ((c.tc : Thread Cert.Main.nD Cert.Main.τ).loc Cert.Main.main_arg0)
      ∧ r.2.mem ((c.tc : Thread Cert.Main.nD Cert.Main.τ).loc Cert.Main.main_arg1) = m ((c.tc : Thread Cert.Main.nD Cert.Main.τ).loc Cert.Main.main_arg1))
      ∧ r.2.sem = fun _ => 0)

def quiescent_MainIdeal [hMainIdeal : Cert.MainIdeal.Facts] : Prop :=
  ∀ (m : (ℓ : Loc Cert.MainIdeal.nD Cert.MainIdeal.τ Cert.MainIdeal.sig) → Buf (Elt Ideal) ℓ) (g : Dev Cert.MainIdeal.nD → PrngReg), Pre_MainIdeal m →
    θ_run (Cert.MainIdeal.defs (F := Ideal)) (onTc (τ := Cert.MainIdeal.τ) (Cert.MainIdeal.main (F := Ideal))) ⟨m, fun _ => 0, g⟩ (fun r => (∀ c : Dev Cert.MainIdeal.nD,
      r.2.mem ((c.tc : Thread Cert.MainIdeal.nD Cert.MainIdeal.τ).loc Cert.MainIdeal.main_arg0) = m ((c.tc : Thread Cert.MainIdeal.nD Cert.MainIdeal.τ).loc Cert.MainIdeal.main_arg0)
      ∧ r.2.mem ((c.tc : Thread Cert.MainIdeal.nD Cert.MainIdeal.τ).loc Cert.MainIdeal.main_arg1) = m ((c.tc : Thread Cert.MainIdeal.nD Cert.MainIdeal.τ).loc Cert.MainIdeal.main_arg1))
      ∧ r.2.sem = fun _ => 0)

def quiescent_MainReferenceIdeal [hMainReferenceIdeal : Cert.MainReferenceIdeal.Facts] : Prop :=
  ∀ (m : (ℓ : Loc Cert.MainReferenceIdeal.nD Cert.MainReferenceIdeal.τ Cert.MainReferenceIdeal.sig) → Buf (Elt Ideal) ℓ) (g : Dev Cert.MainReferenceIdeal.nD → PrngReg), Pre_MainReferenceIdeal m →
    θ_run (Cert.MainReferenceIdeal.defs (F := Ideal)) (onTc (τ := Cert.MainReferenceIdeal.τ) (Cert.MainReferenceIdeal.main (F := Ideal))) ⟨m, fun _ => 0, g⟩ (fun r => (∀ c : Dev Cert.MainReferenceIdeal.nD,
      r.2.mem ((c.tc : Thread Cert.MainReferenceIdeal.nD Cert.MainReferenceIdeal.τ).loc Cert.MainReferenceIdeal.main_arg0) = m ((c.tc : Thread Cert.MainReferenceIdeal.nD Cert.MainReferenceIdeal.τ).loc Cert.MainReferenceIdeal.main_arg0)
      ∧ r.2.mem ((c.tc : Thread Cert.MainReferenceIdeal.nD Cert.MainReferenceIdeal.τ).loc Cert.MainReferenceIdeal.main_arg1) = m ((c.tc : Thread Cert.MainReferenceIdeal.nD Cert.MainReferenceIdeal.τ).loc Cert.MainReferenceIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1))
      ∧ r.2.sem = fun _ => 0)

def quiescent_LatentReferenceIdeal [hLatentReferenceIdeal : Cert.LatentReferenceIdeal.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13))
      ∧ r.2.sem = fun _ => 0)

def quiescent_Entry [hEntry : Cert.Entry.Facts] : Prop :=
  ∀ (m : (ℓ : Loc Cert.Entry.nD Cert.Entry.τ Cert.Entry.sig) → Buf (Elt Bits) ℓ) (g : Dev Cert.Entry.nD → PrngReg), Pre_Entry m →
    θ_run (Cert.Entry.defs (F := Bits)) (onTc (τ := Cert.Entry.τ) (Cert.Entry.main (F := Bits))) ⟨m, fun _ => 0, g⟩ (fun r => (∀ c : Dev Cert.Entry.nD,
      r.2.mem ((c.tc : Thread Cert.Entry.nD Cert.Entry.τ).loc Cert.Entry.main_arg0) = m ((c.tc : Thread Cert.Entry.nD Cert.Entry.τ).loc Cert.Entry.main_arg0)
      ∧ r.2.mem ((c.tc : Thread Cert.Entry.nD Cert.Entry.τ).loc Cert.Entry.main_arg1) = m ((c.tc : Thread Cert.Entry.nD Cert.Entry.τ).loc Cert.Entry.main_arg1)
      ∧ r.2.mem ((c.tc : Thread Cert.Entry.nD Cert.Entry.τ).loc Cert.Entry.main_arg2) = m ((c.tc : Thread Cert.Entry.nD Cert.Entry.τ).loc Cert.Entry.main_arg2))
      ∧ r.2.sem = fun _ => 0)

def quiescent_EntryIdeal [hEntryIdeal : Cert.EntryIdeal.Facts] : Prop :=
  ∀ (m : (ℓ : Loc Cert.EntryIdeal.nD Cert.EntryIdeal.τ Cert.EntryIdeal.sig) → Buf (Elt Ideal) ℓ) (g : Dev Cert.EntryIdeal.nD → PrngReg), Pre_EntryIdeal m →
    θ_run (Cert.EntryIdeal.defs (F := Ideal)) (onTc (τ := Cert.EntryIdeal.τ) (Cert.EntryIdeal.main (F := Ideal))) ⟨m, fun _ => 0, g⟩ (fun r => (∀ c : Dev Cert.EntryIdeal.nD,
      r.2.mem ((c.tc : Thread Cert.EntryIdeal.nD Cert.EntryIdeal.τ).loc Cert.EntryIdeal.main_arg0) = m ((c.tc : Thread Cert.EntryIdeal.nD Cert.EntryIdeal.τ).loc Cert.EntryIdeal.main_arg0)
      ∧ r.2.mem ((c.tc : Thread Cert.EntryIdeal.nD Cert.EntryIdeal.τ).loc Cert.EntryIdeal.main_arg1) = m ((c.tc : Thread Cert.EntryIdeal.nD Cert.EntryIdeal.τ).loc Cert.EntryIdeal.main_arg1)
      ∧ r.2.mem ((c.tc : Thread Cert.EntryIdeal.nD Cert.EntryIdeal.τ).loc Cert.EntryIdeal.main_arg2) = m ((c.tc : Thread Cert.EntryIdeal.nD Cert.EntryIdeal.τ).loc Cert.EntryIdeal.main_arg2))
      ∧ r.2.sem = fun _ => 0)

def quiescent_EntryReferenceIdeal [hEntryReferenceIdeal : Cert.EntryReferenceIdeal.Facts] : Prop :=
  ∀ (m : (ℓ : Loc Cert.EntryReferenceIdeal.nD Cert.EntryReferenceIdeal.τ Cert.EntryReferenceIdeal.sig) → Buf (Elt Ideal) ℓ) (g : Dev Cert.EntryReferenceIdeal.nD → PrngReg), Pre_EntryReferenceIdeal m →
    θ_run (Cert.EntryReferenceIdeal.defs (F := Ideal)) (onTc (τ := Cert.EntryReferenceIdeal.τ) (Cert.EntryReferenceIdeal.main (F := Ideal))) ⟨m, fun _ => 0, g⟩ (fun r => (∀ c : Dev Cert.EntryReferenceIdeal.nD,
      r.2.mem ((c.tc : Thread Cert.EntryReferenceIdeal.nD Cert.EntryReferenceIdeal.τ).loc Cert.EntryReferenceIdeal.main_arg0) = m ((c.tc : Thread Cert.EntryReferenceIdeal.nD Cert.EntryReferenceIdeal.τ).loc Cert.EntryReferenceIdeal.main_arg0)
      ∧ r.2.mem ((c.tc : Thread Cert.EntryReferenceIdeal.nD Cert.EntryReferenceIdeal.τ).loc Cert.EntryReferenceIdeal.main_arg1) = m ((c.tc : Thread Cert.EntryReferenceIdeal.nD Cert.EntryReferenceIdeal.τ).loc Cert.EntryReferenceIdeal.main_arg1)
      ∧ r.2.mem ((c.tc : Thread Cert.EntryReferenceIdeal.nD Cert.EntryReferenceIdeal.τ).loc Cert.EntryReferenceIdeal.main_arg2) = m ((c.tc : Thread Cert.EntryReferenceIdeal.nD Cert.EntryReferenceIdeal.τ).loc Cert.EntryReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Main_MainIdeal : Prop :=
  True

def algebraic_MainIdeal_MainReferenceIdeal [hMainIdeal : Cert.MainIdeal.Facts] [hMainReferenceIdeal : Cert.MainReferenceIdeal.Facts] : Prop :=
  ∀ (m : (ℓ : Loc Cert.MainIdeal.nD Cert.MainIdeal.τ Cert.MainIdeal.sig) → Buf (Elt Ideal) ℓ) (g : Dev Cert.MainIdeal.nD → PrngReg)
    (m' : (ℓ : Loc Cert.MainReferenceIdeal.nD Cert.MainReferenceIdeal.τ Cert.MainReferenceIdeal.sig) → Buf (Elt Ideal) ℓ) (g' : Dev Cert.MainReferenceIdeal.nD → PrngReg), Pre_MainIdeal m →
    (∀ c : Dev Cert.MainIdeal.nD,
      m' ((c.tc : Thread Cert.MainReferenceIdeal.nD Cert.MainReferenceIdeal.τ).loc Cert.MainReferenceIdeal.main_arg0) = m ((c.tc : Thread Cert.MainIdeal.nD Cert.MainIdeal.τ).loc Cert.MainIdeal.main_arg0)
      ∧ m' ((c.tc : Thread Cert.MainReferenceIdeal.nD Cert.MainReferenceIdeal.τ).loc Cert.MainReferenceIdeal.main_arg1) = m ((c.tc : Thread Cert.MainIdeal.nD Cert.MainIdeal.τ).loc Cert.MainIdeal.main_arg1)) →
    ∃ (v0 : (c : Dev Cert.MainIdeal.nD) → Buf (Elt Ideal) ((c.tc : Thread Cert.MainIdeal.nD Cert.MainIdeal.τ).loc Cert.MainIdeal.main_v19)),
      θ_run (Cert.MainIdeal.defs (F := Ideal)) (onTc (τ := Cert.MainIdeal.τ) (Cert.MainIdeal.main (F := Ideal))) ⟨m, fun _ => 0, g⟩ (fun r => ∀ c : Dev Cert.MainIdeal.nD,
          r.2.mem ((c.tc : Thread Cert.MainIdeal.nD Cert.MainIdeal.τ).loc Cert.MainIdeal.main_v19) = v0 c
          ∧ r.2.mem ((c.tc : Thread Cert.MainIdeal.nD Cert.MainIdeal.τ).loc Cert.MainIdeal.main_arg0) = m ((c.tc : Thread Cert.MainIdeal.nD Cert.MainIdeal.τ).loc Cert.MainIdeal.main_arg0)
          ∧ r.2.mem ((c.tc : Thread Cert.MainIdeal.nD Cert.MainIdeal.τ).loc Cert.MainIdeal.main_arg1) = m ((c.tc : Thread Cert.MainIdeal.nD Cert.MainIdeal.τ).loc Cert.MainIdeal.main_arg1))
      ∧ θ_run (Cert.MainReferenceIdeal.defs (F := Ideal)) (onTc (τ := Cert.MainReferenceIdeal.τ) (Cert.MainReferenceIdeal.main (F := Ideal))) ⟨m', fun _ => 0, g'⟩ (fun r => ∀ c : Dev Cert.MainReferenceIdeal.nD,
          r.2.mem ((c.tc : Thread Cert.MainReferenceIdeal.nD Cert.MainReferenceIdeal.τ).loc Cert.MainReferenceIdeal.main_v4) = v0 c
          ∧ r.2.mem ((c.tc : Thread Cert.MainReferenceIdeal.nD Cert.MainReferenceIdeal.τ).loc Cert.MainReferenceIdeal.main_arg0) = m' ((c.tc : Thread Cert.MainReferenceIdeal.nD Cert.MainReferenceIdeal.τ).loc Cert.MainReferenceIdeal.main_arg0)
          ∧ r.2.mem ((c.tc : Thread Cert.MainReferenceIdeal.nD Cert.MainReferenceIdeal.τ).loc Cert.MainReferenceIdeal.main_arg1) = m' ((c.tc : Thread Cert.MainReferenceIdeal.nD Cert.MainReferenceIdeal.τ).loc Cert.MainReferenceIdeal.main_arg1))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v18)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v18) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v2) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1))

def preserves_Latent_LatentIdeal : Prop :=
  True

def algebraic_LatentIdeal_LatentReferenceIdeal [hLatentIdeal : Cert.LatentIdeal.Facts] [hLatentReferenceIdeal : Cert.LatentReferenceIdeal.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentReferenceIdeal.nD Cert.LatentReferenceIdeal.τ Cert.LatentReferenceIdeal.sig) → Buf (Elt Ideal) ℓ) (g' : Dev Cert.LatentReferenceIdeal.nD → PrngReg), Pre_LatentIdeal m →
    (∀ c : Dev Cert.LatentIdeal.nD,
      m' ((c.tc : Thread Cert.LatentReferenceIdeal.nD Cert.LatentReferenceIdeal.τ).loc Cert.LatentReferenceIdeal.main_arg0) = m ((c.tc : Thread Cert.LatentIdeal.nD Cert.LatentIdeal.τ).loc Cert.LatentIdeal.main_arg0)
      ∧ m' ((c.tc : Thread Cert.LatentReferenceIdeal.nD Cert.LatentReferenceIdeal.τ).loc Cert.LatentReferenceIdeal.main_arg1) = m ((c.tc : Thread Cert.LatentIdeal.nD Cert.LatentIdeal.τ).loc Cert.LatentIdeal.main_arg1)) →
    ∃ (v0 : (c : Dev Cert.LatentIdeal.nD) → Buf (Elt Ideal) ((c.tc : Thread Cert.LatentIdeal.nD Cert.LatentIdeal.τ).loc Cert.LatentIdeal.main_v20_0)) (v1 : (c : Dev Cert.LatentIdeal.nD) → Buf (Elt Ideal) ((c.tc : Thread Cert.LatentIdeal.nD Cert.LatentIdeal.τ).loc Cert.LatentIdeal.main_v20_1)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v20_0) = v0 c
          ∧ r.2.mem ((c.tc : Thread Cert.LatentIdeal.nD Cert.LatentIdeal.τ).loc Cert.LatentIdeal.main_v20_1) = v1 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1))
      ∧ θ_run (Cert.LatentReferenceIdeal.defs (F := Ideal)) (onTc (τ := Cert.LatentReferenceIdeal.τ) (Cert.LatentReferenceIdeal.main (F := Ideal))) ⟨m', fun _ => 0, g'⟩ (fun r => ∀ c : Dev Cert.LatentReferenceIdeal.nD,
          r.2.mem ((c.tc : Thread Cert.LatentReferenceIdeal.nD Cert.LatentReferenceIdeal.τ).loc Cert.LatentReferenceIdeal.main_v6) = v0 c
          ∧ r.2.mem ((c.tc : Thread Cert.LatentReferenceIdeal.nD Cert.LatentReferenceIdeal.τ).loc Cert.LatentReferenceIdeal.main_v7) = v1 c
          ∧ r.2.mem ((c.tc : Thread Cert.LatentReferenceIdeal.nD Cert.LatentReferenceIdeal.τ).loc Cert.LatentReferenceIdeal.main_arg0) = m' ((c.tc : Thread Cert.LatentReferenceIdeal.nD Cert.LatentReferenceIdeal.τ).loc Cert.LatentReferenceIdeal.main_arg0)
          ∧ r.2.mem ((c.tc : Thread Cert.LatentReferenceIdeal.nD Cert.LatentReferenceIdeal.τ).loc Cert.LatentReferenceIdeal.main_arg1) = m' ((c.tc : Thread Cert.LatentReferenceIdeal.nD Cert.LatentReferenceIdeal.τ).loc Cert.LatentReferenceIdeal.main_arg1))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)
      ∧ m' ((c.tc : Thread Cert.MergeReferenceIdeal.nD Cert.MergeReferenceIdeal.τ).loc Cert.MergeReferenceIdeal.main_arg13) = m ((c.tc : Thread Cert.MergeIdeal.nD Cert.MergeIdeal.τ).loc Cert.MergeIdeal.main_arg13)) →
    ∃ (v0 : (c : Dev Cert.MergeIdeal.nD) → Buf (Elt Ideal) ((c.tc : Thread Cert.MergeIdeal.nD Cert.MergeIdeal.τ).loc Cert.MergeIdeal.main_v23_0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v23_0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v47) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12)
          ∧ r.2.mem ((c.tc : Thread Cert.MergeReferenceIdeal.nD Cert.MergeReferenceIdeal.τ).loc Cert.MergeReferenceIdeal.main_arg13) = m' ((c.tc : Thread Cert.MergeReferenceIdeal.nD Cert.MergeReferenceIdeal.τ).loc Cert.MergeReferenceIdeal.main_arg13))

def preserves_Entry_EntryIdeal : Prop :=
  True

def algebraic_EntryIdeal_EntryReferenceIdeal [hEntryIdeal : Cert.EntryIdeal.Facts] [hEntryReferenceIdeal : Cert.EntryReferenceIdeal.Facts] : Prop :=
  ∀ (m : (ℓ : Loc Cert.EntryIdeal.nD Cert.EntryIdeal.τ Cert.EntryIdeal.sig) → Buf (Elt Ideal) ℓ) (g : Dev Cert.EntryIdeal.nD → PrngReg)
    (m' : (ℓ : Loc Cert.EntryReferenceIdeal.nD Cert.EntryReferenceIdeal.τ Cert.EntryReferenceIdeal.sig) → Buf (Elt Ideal) ℓ) (g' : Dev Cert.EntryReferenceIdeal.nD → PrngReg), Pre_EntryIdeal m →
    (∀ c : Dev Cert.EntryIdeal.nD,
      m' ((c.tc : Thread Cert.EntryReferenceIdeal.nD Cert.EntryReferenceIdeal.τ).loc Cert.EntryReferenceIdeal.main_arg0) = m ((c.tc : Thread Cert.EntryIdeal.nD Cert.EntryIdeal.τ).loc Cert.EntryIdeal.main_arg0)
      ∧ m' ((c.tc : Thread Cert.EntryReferenceIdeal.nD Cert.EntryReferenceIdeal.τ).loc Cert.EntryReferenceIdeal.main_arg1) = m ((c.tc : Thread Cert.EntryIdeal.nD Cert.EntryIdeal.τ).loc Cert.EntryIdeal.main_arg1)
      ∧ m' ((c.tc : Thread Cert.EntryReferenceIdeal.nD Cert.EntryReferenceIdeal.τ).loc Cert.EntryReferenceIdeal.main_arg2) = m ((c.tc : Thread Cert.EntryIdeal.nD Cert.EntryIdeal.τ).loc Cert.EntryIdeal.main_arg2)) →
    ∃ (v0 : (c : Dev Cert.EntryIdeal.nD) → Buf (Elt Ideal) ((c.tc : Thread Cert.EntryIdeal.nD Cert.EntryIdeal.τ).loc Cert.EntryIdeal.main_v2_0)) (v1 : (c : Dev Cert.EntryIdeal.nD) → Buf (Elt Ideal) ((c.tc : Thread Cert.EntryIdeal.nD Cert.EntryIdeal.τ).loc Cert.EntryIdeal.main_v2_1)),
      θ_run (Cert.EntryIdeal.defs (F := Ideal)) (onTc (τ := Cert.EntryIdeal.τ) (Cert.EntryIdeal.main (F := Ideal))) ⟨m, fun _ => 0, g⟩ (fun r => ∀ c : Dev Cert.EntryIdeal.nD,
          r.2.mem ((c.tc : Thread Cert.EntryIdeal.nD Cert.EntryIdeal.τ).loc Cert.EntryIdeal.main_v2_0) = v0 c
          ∧ r.2.mem ((c.tc : Thread Cert.EntryIdeal.nD Cert.EntryIdeal.τ).loc Cert.EntryIdeal.main_v2_1) = v1 c
          ∧ r.2.mem ((c.tc : Thread Cert.EntryIdeal.nD Cert.EntryIdeal.τ).loc Cert.EntryIdeal.main_arg0) = m ((c.tc : Thread Cert.EntryIdeal.nD Cert.EntryIdeal.τ).loc Cert.EntryIdeal.main_arg0)
          ∧ r.2.mem ((c.tc : Thread Cert.EntryIdeal.nD Cert.EntryIdeal.τ).loc Cert.EntryIdeal.main_arg1) = m ((c.tc : Thread Cert.EntryIdeal.nD Cert.EntryIdeal.τ).loc Cert.EntryIdeal.main_arg1)
          ∧ r.2.mem ((c.tc : Thread Cert.EntryIdeal.nD Cert.EntryIdeal.τ).loc Cert.EntryIdeal.main_arg2) = m ((c.tc : Thread Cert.EntryIdeal.nD Cert.EntryIdeal.τ).loc Cert.EntryIdeal.main_arg2))
      ∧ θ_run (Cert.EntryReferenceIdeal.defs (F := Ideal)) (onTc (τ := Cert.EntryReferenceIdeal.τ) (Cert.EntryReferenceIdeal.main (F := Ideal))) ⟨m', fun _ => 0, g'⟩ (fun r => ∀ c : Dev Cert.EntryReferenceIdeal.nD,
          r.2.mem ((c.tc : Thread Cert.EntryReferenceIdeal.nD Cert.EntryReferenceIdeal.τ).loc Cert.EntryReferenceIdeal.main_v23) = v0 c
          ∧ r.2.mem ((c.tc : Thread Cert.EntryReferenceIdeal.nD Cert.EntryReferenceIdeal.τ).loc Cert.EntryReferenceIdeal.main_v24) = v1 c
          ∧ r.2.mem ((c.tc : Thread Cert.EntryReferenceIdeal.nD Cert.EntryReferenceIdeal.τ).loc Cert.EntryReferenceIdeal.main_arg0) = m' ((c.tc : Thread Cert.EntryReferenceIdeal.nD Cert.EntryReferenceIdeal.τ).loc Cert.EntryReferenceIdeal.main_arg0)
          ∧ r.2.mem ((c.tc : Thread Cert.EntryReferenceIdeal.nD Cert.EntryReferenceIdeal.τ).loc Cert.EntryReferenceIdeal.main_arg1) = m' ((c.tc : Thread Cert.EntryReferenceIdeal.nD Cert.EntryReferenceIdeal.τ).loc Cert.EntryReferenceIdeal.main_arg1)
          ∧ r.2.mem ((c.tc : Thread Cert.EntryReferenceIdeal.nD Cert.EntryReferenceIdeal.τ).loc Cert.EntryReferenceIdeal.main_arg2) = m' ((c.tc : Thread Cert.EntryReferenceIdeal.nD Cert.EntryReferenceIdeal.τ).loc Cert.EntryReferenceIdeal.main_arg2))

def Claim : Prop :=
  ∃ (hKernel : Cert.Kernel.Facts) (hKernelIdeal : Cert.KernelIdeal.Facts) (hReferenceIdeal : Cert.ReferenceIdeal.Facts) (hMain : Cert.Main.Facts) (hMainIdeal : Cert.MainIdeal.Facts) (hMainReferenceIdeal : Cert.MainReferenceIdeal.Facts) (hGate : Cert.Gate.Facts) (hGateIdeal : Cert.GateIdeal.Facts) (hGateReferenceIdeal : Cert.GateReferenceIdeal.Facts) (hLatent : Cert.Latent.Facts) (hLatentIdeal : Cert.LatentIdeal.Facts) (hLatentReferenceIdeal : Cert.LatentReferenceIdeal.Facts) (hMerge : Cert.Merge.Facts) (hMergeIdeal : Cert.MergeIdeal.Facts) (hMergeReferenceIdeal : Cert.MergeReferenceIdeal.Facts) (hEntry : Cert.Entry.Facts) (hEntryIdeal : Cert.EntryIdeal.Facts) (hEntryReferenceIdeal : Cert.EntryReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Main (hMain := hMain)
    ∧ quiescent_MainIdeal (hMainIdeal := hMainIdeal)
    ∧ quiescent_MainReferenceIdeal (hMainReferenceIdeal := hMainReferenceIdeal)
    ∧ quiescent_Gate (hGate := hGate)
    ∧ quiescent_GateIdeal (hGateIdeal := hGateIdeal)
    ∧ quiescent_GateReferenceIdeal (hGateReferenceIdeal := hGateReferenceIdeal)
    ∧ quiescent_Latent (hLatent := hLatent)
    ∧ quiescent_LatentIdeal (hLatentIdeal := hLatentIdeal)
    ∧ quiescent_LatentReferenceIdeal (hLatentReferenceIdeal := hLatentReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Entry (hEntry := hEntry)
    ∧ quiescent_EntryIdeal (hEntryIdeal := hEntryIdeal)
    ∧ quiescent_EntryReferenceIdeal (hEntryReferenceIdeal := hEntryReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Main_MainIdeal
    ∧ algebraic_MainIdeal_MainReferenceIdeal (hMainIdeal := hMainIdeal) (hMainReferenceIdeal := hMainReferenceIdeal)
    ∧ preserves_Gate_GateIdeal
    ∧ algebraic_GateIdeal_GateReferenceIdeal (hGateIdeal := hGateIdeal) (hGateReferenceIdeal := hGateReferenceIdeal)
    ∧ preserves_Latent_LatentIdeal
    ∧ algebraic_LatentIdeal_LatentReferenceIdeal (hLatentIdeal := hLatentIdeal) (hLatentReferenceIdeal := hLatentReferenceIdeal)
    ∧ preserves_Merge_MergeIdeal
    ∧ algebraic_MergeIdeal_MergeReferenceIdeal (hMergeIdeal := hMergeIdeal) (hMergeReferenceIdeal := hMergeReferenceIdeal)
    ∧ preserves_Entry_EntryIdeal
    ∧ algebraic_EntryIdeal_EntryReferenceIdeal (hEntryIdeal := hEntryIdeal) (hEntryReferenceIdeal := hEntryReferenceIdeal)
-- ==== Pre_finite.lean ====
abbrev S4x8192x4x128 : Shape := ⟨4, ![4, 8192, 4, 128]⟩
abbrev S4x8192x4x64 : Shape := ⟨4, ![4, 8192, 4, 64]⟩
abbrev S4x8192x64 : Shape := ⟨3, ![4, 8192, 64]⟩
abbrev S_ : Shape := ⟨0, ![]⟩

class Facts : Prop where
  bcast_S_S4x8192x4x128 : S_.BroadcastsInDim S4x8192x4x128 (![] : Fin 0 → Fin S4x8192x4x128.rank)
  reducesTo_S4x8192x4x128_S_d0_1_2_3 : S4x8192x4x128.ReducesTo [0, 1, 2, 3] S_
  h_S_ : 0 < S_.numel
  bcast_S_S4x8192x4x64 : S_.BroadcastsInDim S4x8192x4x64 (![] : Fin 0 → Fin S4x8192x4x64.rank)
  reducesTo_S4x8192x4x64_S_d0_1_2_3 : S4x8192x4x64.ReducesTo [0, 1, 2, 3] S_
  bcast_S_S4x8192x64 : S_.BroadcastsInDim S4x8192x64 (![] : Fin 0 → Fin S4x8192x64.rank)
  reducesTo_S4x8192x64_S_d0_1_2 : S4x8192x64.ReducesTo [0, 1, 2] S_

variable [Facts]

def fn_part1 {F : FTy → Type} [FloatOps F] (main_v13 : IVec S_ 1) (main_v16 : IVec S4x8192x64 1) : IVec S_ 1 :=
  let main_c_5 : IVec S_ 1 := constantI S_ 1 1#1
  let main_v17 : IVec S_ 1 := (fun x v => Host.reduce IntOp.andi x v reducesTo_S4x8192x64_S_d0_1_2 h_S_) main_v16 main_c_5
  let main_v18 : IVec S_ 1 := andi main_v13 main_v17
  main_v18

def fn {F : FTy → Type} [FloatOps F] (main_arg0 : FVec F S4x8192x4x128 .f32) (main_arg1 : FVec F S4x8192x4x64 .f32) (main_arg2 : FVec F S4x8192x4x128 .f32) (main_arg3 : FVec F S4x8192x64 .f32) (main_arg4 : FVec F S4x8192x4x128 .f32) : IVec S_ 1 :=
  let main_v0 : FVec F S4x8192x4x128 .f32 := Host.absf main_arg0
  let main_cst : FVec F S_ .f32 := constant S_ .f32 0x7F800000#32
  let main_v1 : FVec F S4x8192x4x128 .f32 := broadcastInDim S4x8192x4x128 ![] bcast_S_S4x8192x4x128 main_cst
  let main_v2 : IVec S4x8192x4x128 1 := cmpf .olt main_v0 main_v1
  let main_c : IVec S_ 1 := constantI S_ 1 1#1
  let main_v3 : IVec S_ 1 := (fun x v => Host.reduce IntOp.andi x v reducesTo_S4x8192x4x128_S_d0_1_2_3 h_S_) main_v2 main_c
  let main_v4 : FVec F S4x8192x4x64 .f32 := Host.absf main_arg1
  let main_cst_0 : FVec F S_ .f32 := constant S_ .f32 0x7F800000#32
  let main_v5 : FVec F S4x8192x4x64 .f32 := broadcastInDim S4x8192x4x64 ![] bcast_S_S4x8192x4x64 main_cst_0
  let main_v6 : IVec S4x8192x4x64 1 := cmpf .olt main_v4 main_v5
  let main_c_1 : IVec S_ 1 := constantI S_ 1 1#1
  let main_v7 : IVec S_ 1 := (fun x v => Host.reduce IntOp.andi x v reducesTo_S4x8192x4x64_S_d0_1_2_3 h_S_) main_v6 main_c_1
  let main_v8 : IVec S_ 1 := andi main_v3 main_v7
  let main_v9 : FVec F S4x8192x4x128 .f32 := Host.absf main_arg2
  let main_cst_2 : FVec F S_ .f32 := constant S_ .f32 0x7F800000#32
  let main_v10 : FVec F S4x8192x4x128 .f32 := broadcastInDim S4x8192x4x128 ![] bcast_S_S4x8192x4x128 main_cst_2
  let main_v11 : IVec S4x8192x4x128 1 := cmpf .olt main_v9 main_v10
  let main_c_3 : IVec S_ 1 := constantI S_ 1 1#1
  let main_v12 : IVec S_ 1 := (fun x v => Host.reduce IntOp.andi x v reducesTo_S4x8192x4x128_S_d0_1_2_3 h_S_) main_v11 main_c_3
  let main_v13 : IVec S_ 1 := andi main_v8 main_v12
  let main_v14 : FVec F S4x8192x64 .f32 := Host.absf main_arg3
  let main_cst_4 : FVec F S_ .f32 := constant S_ .f32 0x7F800000#32
  let main_v15 : FVec F S4x8192x64 .f32 := broadcastInDim S4x8192x64 ![] bcast_S_S4x8192x64 main_cst_4
  let main_v16 : IVec S4x8192x64 1 := cmpf .olt main_v14 main_v15
  fn_part1 (F := F) main_v13 main_v16
-- ==== Kernel.lean ====
abbrev S4x8192x4x128 : Shape := ⟨4, ![4, 8192, 4, 128]⟩
abbrev S4x8192x4x64 : Shape := ⟨4, ![4, 8192, 4, 64]⟩
abbrev S4x8192x64 : Shape := ⟨3, ![4, 8192, 64]⟩
abbrev S_ : Shape := ⟨0, ![]⟩
abbrev S4x8192x4x256 : Shape := ⟨4, ![4, 8192, 4, 256]⟩
abbrev S4x8192x1x64 : Shape := ⟨4, ![4, 8192, 1, 64]⟩
abbrev S32768x1024 : Shape := ⟨2, ![32768, 1024]⟩
abbrev S32768x512 : Shape := ⟨2, ![32768, 512]⟩
abbrev S1024x512 : Shape := ⟨2, ![1024, 512]⟩
abbrev S8192x512 : Shape := ⟨2, ![8192, 512]⟩
abbrev S1024x256 : Shape := ⟨2, ![1024, 256]⟩
abbrev S1024x1 : Shape := ⟨2, ![1024, 1]⟩
abbrev S1024x1024 : Shape := ⟨2, ![1024, 1024]⟩
abbrev S1024 : Shape := ⟨1, ![1024]⟩
abbrev S1024x128 : Shape := ⟨2, ![1024, 128]⟩

abbrev nBuf : Space → Nat
  | .hbm => 30
  | .vmem => 8
  | .smem => 0
  | _ => 0

abbrev bufTy : (tb : Table) → Fin (tcTables nBuf tb) → BufTy
  | .hbm, ⟨0, _⟩ => ⟨S4x8192x4x128, .f32⟩
  | .hbm, ⟨1, _⟩ => ⟨S4x8192x4x64, .f32⟩
  | .hbm, ⟨2, _⟩ => ⟨S4x8192x4x128, .f32⟩
  | .hbm, ⟨3, _⟩ => ⟨S4x8192x64, .f32⟩
  | .hbm, ⟨4, _⟩ => ⟨S4x8192x4x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x8192x4x64, .f32⟩
  | .hbm, ⟨14, _⟩ => ⟨S4x8192x4x256, .f32⟩
  | .hbm, ⟨15, _⟩ => ⟨S4x8192x4x256, .f32⟩
  | .hbm, ⟨16, _⟩ => ⟨S4x8192x4x256, .f32⟩
  | .hbm, ⟨17, _⟩ => ⟨S4x8192x4x256, .bf16⟩
  | .hbm, ⟨18, _⟩ => ⟨S4x8192x1x64, .f32⟩
  | .hbm, ⟨19, _⟩ => ⟨S4x8192x4x64, .f32⟩
  | .hbm, ⟨20, _⟩ => ⟨S4x8192x4x256, .f32⟩
  | .hbm, ⟨21, _⟩ => ⟨S4x8192x4x256, .bf16⟩
  | .hbm, ⟨22, _⟩ => ⟨S_, .f32⟩
  | .hbm, ⟨23, _⟩ => ⟨S4x8192x4x128, .f32⟩
  | .hbm, ⟨24, _⟩ => ⟨S4x8192x4x256, .f32⟩
  | .hbm, ⟨25, _⟩ => ⟨S4x8192x4x256, .bf16⟩
  | .hbm, ⟨26, _⟩ => ⟨S32768x1024, .bf16⟩
  | .hbm, ⟨27, _⟩ => ⟨S32768x1024, .bf16⟩
  | .hbm, ⟨28, _⟩ => ⟨S32768x1024, .bf16⟩
  | .hbm, ⟨29, _⟩ => ⟨S32768x512, .bf16⟩
  | .local _ .vmem, ⟨0, _⟩ => ⟨S1024x512, .bf16⟩
  | .local _ .vmem, ⟨1, _⟩ => ⟨S1024x512, .bf16⟩
  | .local _ .vmem, ⟨2, _⟩ => ⟨S8192x512, .bf16⟩
  | .local _ .vmem, ⟨3, _⟩ => ⟨S8192x512, .bf16⟩
  | .local _ .vmem, ⟨4, _⟩ => ⟨S8192x512, .bf16⟩
  | .local _ .vmem, ⟨5, _⟩ => ⟨S8192x512, .bf16⟩
  | .local _ .vmem, ⟨6, _⟩ => ⟨S1024x256, .bf16⟩
  | .local _ .vmem, ⟨7, _⟩ => ⟨S1024x256, .bf16⟩
  | _, _ => ⟨S4x8192x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 8], ![false, false, false]⟩

@[reducible] def k0_t1_loop (i : grid0.Coords) : Scf.Loop 32 :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_5 : BitVec 32 := 1#32
  ⟨c0_i32, v12, c1_i32_5⟩
def k0_mult1 (i : grid0.Coords) (k0_t1 : Fin (k0_t1_loop i).trips) : BitVec 32 :=
  let c0_i32 : BitVec 32 := 0#32
  let c1_i32_5 : BitVec 32 := 1#32
  let arg7 : BitVec 32 := Scf.iv c0_i32 c1_i32_5 k0_t1
  let c1024_i32_21 : BitVec 32 := 1024#32
  let v81 : BitVec 32 := Scalar.muli arg7 c1024_i32_21
  v81
def k0_off1 (i : grid0.Coords) (k0_t1 : Fin (k0_t1_loop i).trips) : Fin 2 → Nat :=
  let c0_i32 : BitVec 32 := 0#32
  let c1_i32_5 : BitVec 32 := 1#32
  let arg7 : BitVec 32 := Scf.iv c0_i32 c1_i32_5 k0_t1
  let c1024_i32_21 : BitVec 32 := 1024#32
  let v81 : BitVec 32 := Scalar.muli arg7 c1024_i32_21
  let v82 : BitVec 32 := v81
  let v83 : Index := Scalar.indexCast v82
  let c0_22 : Index := 0#32
  ![v83.toNat, 0]
def k0_off2 (i : grid0.Coords) (k0_t1 : Fin (k0_t1_loop i).trips) : Fin 2 → Nat :=
  let c0_i32 : BitVec 32 := 0#32
  let c1_i32_5 : BitVec 32 := 1#32
  let arg7 : BitVec 32 := Scf.iv c0_i32 c1_i32_5 k0_t1
  let c1024_i32_21 : BitVec 32 := 1024#32
  let v81 : BitVec 32 := Scalar.muli arg7 c1024_i32_21
  let v82 : BitVec 32 := v81
  let v88 : Index := Scalar.indexCast v82
  let c256_24 : Index := 256#32
  ![v88.toNat, 256]
@[reducible] def k0_t2_loop (i : grid0.Coords) : Scf.Loop 32 :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let v9 : BitVec 32 := Scalar.addi c0_i32 v8
  let c1_i32_6 : BitVec 32 := 1#32
  ⟨v12, v9, c1_i32_6⟩
def k0_mult2 (i : grid0.Coords) (k0_t2 : Fin (k0_t2_loop i).trips) : BitVec 32 :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_6 : BitVec 32 := 1#32
  let arg7 : BitVec 32 := Scf.iv v12 c1_i32_6 k0_t2
  let c1024_i32_21 : BitVec 32 := 1024#32
  let v81 : BitVec 32 := Scalar.muli arg7 c1024_i32_21
  v81
def k0_off3 (i : grid0.Coords) (k0_t2 : Fin (k0_t2_loop i).trips) : Fin 2 → Nat :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_6 : BitVec 32 := 1#32
  let arg7 : BitVec 32 := Scf.iv v12 c1_i32_6 k0_t2
  let c1024_i32_21 : BitVec 32 := 1024#32
  let v81 : BitVec 32 := Scalar.muli arg7 c1024_i32_21
  let v82 : BitVec 32 := v81
  let v83 : Index := Scalar.indexCast v82
  let c0_22 : Index := 0#32
  ![v83.toNat, 0]
def k0_off4 (i : grid0.Coords) (k0_t2 : Fin (k0_t2_loop i).trips) : Fin 2 → Nat :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_6 : BitVec 32 := 1#32
  let arg7 : BitVec 32 := Scf.iv v12 c1_i32_6 k0_t2
  let c1024_i32_21 : BitVec 32 := 1024#32
  let v81 : BitVec 32 := Scalar.muli arg7 c1024_i32_21
  let v82 : BitVec 32 := v81
  let v88 : Index := Scalar.indexCast v82
  let c256_24 : Index := 256#32
  ![v88.toNat, 256]
def k0_mult3 (i : grid0.Coords) : BitVec 32 :=
  let arg2 : BitVec 32 := BitVec.ofNat 32 (i 2).val
  let c1024_i32 : BitVec 32 := 1024#32
  let v15 : BitVec 32 := Scalar.muli arg2 c1024_i32
  v15
def k0_off5 (i : grid0.Coords) : Fin 2 → Nat :=
  let arg2 : BitVec 32 := BitVec.ofNat 32 (i 2).val
  let c1024_i32 : BitVec 32 := 1024#32
  let v15 : BitVec 32 := Scalar.muli arg2 c1024_i32
  let v16 : BitVec 32 := v15
  let v17 : Index := Scalar.indexCast v16
  let c0_7 : Index := 0#32
  ![v17.toNat, 0]
def k0_off6 (i : grid0.Coords) : Fin 2 → Nat :=
  let arg2 : BitVec 32 := BitVec.ofNat 32 (i 2).val
  let c1024_i32 : BitVec 32 := 1024#32
  let v15 : BitVec 32 := Scalar.muli arg2 c1024_i32
  let v16 : BitVec 32 := v15
  let v22 : Index := Scalar.indexCast v16
  let c256_9 : Index := 256#32
  ![v22.toNat, 256]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S4x8192x4x128 : Shape := ⟨4, ![4, 8192, 4, 128]⟩
abbrev S4x8192x4x64 : Shape := ⟨4, ![4, 8192, 4, 64]⟩
abbrev S4x8192x64 : Shape := ⟨3, ![4, 8192, 64]⟩
abbrev S_ : Shape := ⟨0, ![]⟩
abbrev S4x4x8192x8192 : Shape := ⟨4, ![4, 4, 8192, 8192]⟩
abbrev S4x8192x8192x4 : Shape := ⟨4, ![4, 8192, 8192, 4]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S4x4x8192 : Shape := ⟨3, ![4, 4, 8192]⟩
abbrev S4x4x8192x1 : Shape := ⟨4, ![4, 4, 8192, 1]⟩
abbrev S4x4x128x8192 : Shape := ⟨4, ![4, 4, 128, 8192]⟩
abbrev S32768x512 : Shape := ⟨2, ![32768, 512]⟩

abbrev nBuf : Space → Nat
  | .hbm => 44
  | .vmem => 0
  | .smem => 0
  | _ => 0

abbrev bufTy : (tb : Table) → Fin (tcTables nBuf tb) → BufTy
  | .hbm, ⟨0, _⟩ => ⟨S4x8192x4x128, .f32⟩
  | .hbm, ⟨1, _⟩ => ⟨S4x8192x4x64, .f32⟩
  | .hbm, ⟨2, _⟩ => ⟨S4x8192x4x128, .f32⟩
  | .hbm, ⟨3, _⟩ => ⟨S4x8192x64, .f32⟩
  | .hbm, ⟨4, _⟩ => ⟨S4x8192x4x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x4x8192x8192, .f32⟩
  | .hbm, ⟨10, _⟩ => ⟨S4x8192x8192x4, .f32⟩
  | .hbm, ⟨11, _⟩ => ⟨S4x4x8192x8192, .f32⟩
  | .hbm, ⟨12, _⟩ => ⟨S4x4x8192x8192, .f32⟩
  | .hbm, ⟨13, _⟩ => ⟨S8192, .i32⟩
  | .hbm, ⟨14, _⟩ => ⟨S8192x1, .i32⟩
  | .hbm, ⟨15, _⟩ => ⟨S1x8192, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S4x4x8192x8192, .f32⟩
  | .hbm, ⟨20, _⟩ => ⟨S4x4x8192x8192, .f32⟩
  | .hbm, ⟨21, _⟩ => ⟨S_, .f32⟩
  | .hbm, ⟨22, _⟩ => ⟨S_, .f32⟩
  | .hbm, ⟨23, _⟩ => ⟨S4x4x8192x8192, .i1⟩
  | .hbm, ⟨24, _⟩ => ⟨S4x4x8192x8192, .f32⟩
  | .hbm, ⟨25, _⟩ => ⟨S4x4x8192x8192, .f32⟩
  | .hbm, ⟨26, _⟩ => ⟨S_, .f32⟩
  | .hbm, ⟨27, _⟩ => ⟨S4x4x8192, .f32⟩
  | .hbm, ⟨28, _⟩ => ⟨S_, .f32⟩
  | .hbm, ⟨29, _⟩ => ⟨S4x4x8192, .f32⟩
  | .hbm, ⟨30, _⟩ => ⟨S4x4x8192, .f32⟩
  | .hbm, ⟨31, _⟩ => ⟨S4x4x8192x1, .f32⟩
  | .hbm, ⟨32, _⟩ => ⟨S4x4x8192x8192, .f32⟩
  | .hbm, ⟨33, _⟩ => ⟨S4x4x8192x8192, .f32⟩
  | .hbm, ⟨34, _⟩ => ⟨S4x4x8192x8192, .f32⟩
  | .hbm, ⟨35, _⟩ => ⟨S_, .f32⟩
  | .hbm, ⟨36, _⟩ => ⟨S4x4x8192, .f32⟩
  | .hbm, ⟨37, _⟩ => ⟨S4x4x8192x1, .f32⟩
  | .hbm, ⟨38, _⟩ => ⟨S4x4x8192x8192, .f32⟩
  | .hbm, ⟨39, _⟩ => ⟨S4x4x8192x8192, .f32⟩
  | .hbm, ⟨40, _⟩ => ⟨S4x4x128x8192, .f32⟩
  | .hbm, ⟨41, _⟩ => ⟨S4x8192x4x128, .f32⟩
  | .hbm, ⟨42, _⟩ => ⟨S32768x512, .f32⟩
  | .hbm, ⟨43, _⟩ => ⟨S32768x512, .bf16⟩
  | _, _ => ⟨S4x8192x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Main.lean ====
abbrev S32768x1024 : Shape := ⟨2, ![32768, 1024]⟩
abbrev S1024x7888 : Shape := ⟨2, ![1024, 7888]⟩
abbrev S1024x512 : Shape := ⟨2, ![1024, 512]⟩
abbrev S1024x4 : Shape := ⟨2, ![1024, 4]⟩
abbrev S1024x384 : Shape := ⟨2, ![1024, 384]⟩
abbrev S1024x256 : Shape := ⟨2, ![1024, 256]⟩
abbrev S1024x64 : Shape := ⟨2, ![1024, 64]⟩
abbrev S1024x3072 : Shape := ⟨2, ![1024, 3072]⟩
abbrev S1024x4096 : Shape := ⟨2, ![1024, 4096]⟩
abbrev S32768x4096 : Shape := ⟨2, ![32768, 4096]⟩
abbrev S512x1024 : Shape := ⟨2, ![512, 1024]⟩
abbrev S1024x2048 : Shape := ⟨2, ![1024, 2048]⟩
abbrev S512x2048 : Shape := ⟨2, ![512, 2048]⟩
abbrev S512x512 : Shape := ⟨2, ![512, 512]⟩

abbrev nBuf : Space → Nat
  | .hbm => 22
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024x7888, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x4, .f32⟩
  | .hbm, ⟨7, _⟩ => ⟨S1024x4, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x4, .f32⟩
  | .hbm, ⟨13, _⟩ => ⟨S1024x4, .f32⟩
  | .hbm, ⟨14, _⟩ => ⟨S1024x384, .f32⟩
  | .hbm, ⟨15, _⟩ => ⟨S1024x256, .f32⟩
  | .hbm, ⟨16, _⟩ => ⟨S1024x64, .f32⟩
  | .hbm, ⟨17, _⟩ => ⟨S1024x3072, .f32⟩
  | .hbm, ⟨18, _⟩ => ⟨S32768x1024, .bf16⟩
  | .hbm, ⟨19, _⟩ => ⟨S1024x4096, .f32⟩
  | .hbm, ⟨20, _⟩ => ⟨S1024x4096, .bf16⟩
  | .hbm, ⟨21, _⟩ => ⟨S32768x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .bf16⟩
  | .local _ .vmem, ⟨5, _⟩ => ⟨S512x2048, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MainReferenceIdeal.lean ====
abbrev S32768x1024 : Shape := ⟨2, ![32768, 1024]⟩
abbrev S1024x7888 : Shape := ⟨2, ![1024, 7888]⟩
abbrev S32768x7888 : Shape := ⟨2, ![32768, 7888]⟩
abbrev S32768x2048 : Shape := ⟨2, ![32768, 2048]⟩
abbrev S32768x4096 : Shape := ⟨2, ![32768, 4096]⟩

abbrev nBuf : Space → Nat
  | .hbm => 7
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x7888, .f32⟩
  | .hbm, ⟨2, _⟩ => ⟨S32768x7888, .f32⟩
  | .hbm, ⟨3, _⟩ => ⟨S32768x2048, .f32⟩
  | .hbm, ⟨4, _⟩ => ⟨S32768x2048, .f32⟩
  | .hbm, ⟨5, _⟩ => ⟨S32768x4096, .f32⟩
  | .hbm, ⟨6, _⟩ => ⟨S32768x4096, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Gate.lean ====
abbrev S32768x1024 : Shape := ⟨2, ![32768, 1024]⟩
abbrev S1024x7888 : Shape := ⟨2, ![1024, 7888]⟩
abbrev S1024x512 : Shape := ⟨2, ![1024, 512]⟩
abbrev S1024x4 : Shape := ⟨2, ![1024, 4]⟩
abbrev S1024x384 : Shape := ⟨2, ![1024, 384]⟩
abbrev S1024x256 : Shape := ⟨2, ![1024, 256]⟩
abbrev S1024x64 : Shape := ⟨2, ![1024, 64]⟩
abbrev S1024x3072 : Shape := ⟨2, ![1024, 3072]⟩
abbrev S32768x3072 : Shape := ⟨2, ![32768, 3072]⟩
abbrev S512x1024 : Shape := ⟨2, ![512, 1024]⟩
abbrev S1024x1536 : Shape := ⟨2, ![1024, 1536]⟩
abbrev S512x1536 : Shape := ⟨2, ![512, 1536]⟩
abbrev S512x512 : Shape := ⟨2, ![512, 512]⟩

abbrev nBuf : Space → Nat
  | .hbm => 21
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024x7888, .f32⟩
  | .hbm, ⟨2, _⟩ => ⟨S32768x1024, .bf16⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x4, .f32⟩
  | .hbm, ⟨8, _⟩ => ⟨S1024x4, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x4, .f32⟩
  | .hbm, ⟨14, _⟩ => ⟨S1024x4, .f32⟩
  | .hbm, ⟨15, _⟩ => ⟨S1024x384, .f32⟩
  | .hbm, ⟨16, _⟩ => ⟨S1024x256, .f32⟩
  | .hbm, ⟨17, _⟩ => ⟨S1024x64, .f32⟩
  | .hbm, ⟨18, _⟩ => ⟨S1024x3072, .f32⟩
  | .hbm, ⟨19, _⟩ => ⟨S1024x3072, .bf16⟩
  | .hbm, ⟨20, _⟩ => ⟨S32768x3072, .bf16⟩
  | .local _ .vmem, ⟨0, _⟩ => ⟨S512x1024, .bf16⟩
  | .local _ .vmem, ⟨1, _⟩ => ⟨S512x1024, .bf16⟩
  | .local _ .vmem, ⟨2, _⟩ => ⟨S1024x1536, .bf16⟩
  | .local _ .vmem, ⟨3, _⟩ => ⟨S1024x1536, .bf16⟩
  | .local _ .vmem, ⟨4, _⟩ => ⟨S512x1536, .bf16⟩
  | .local _ .vmem, ⟨5, _⟩ => ⟨S512x1536, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateReferenceIdeal.lean ====
abbrev S32768x1024 : Shape := ⟨2, ![32768, 1024]⟩
abbrev S1024x7888 : Shape := ⟨2, ![1024, 7888]⟩
abbrev S32768x7888 : Shape := ⟨2, ![32768, 7888]⟩
abbrev S32768x3072 : Shape := ⟨2, ![32768, 3072]⟩

abbrev nBuf : Space → Nat
  | .hbm => 5
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x7888, .f32⟩
  | .hbm, ⟨2, _⟩ => ⟨S32768x7888, .f32⟩
  | .hbm, ⟨3, _⟩ => ⟨S32768x3072, .f32⟩
  | .hbm, ⟨4, _⟩ => ⟨S32768x3072, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Latent.lean ====
abbrev S32768x1024 : Shape := ⟨2, ![32768, 1024]⟩
abbrev S1024x7888 : Shape := ⟨2, ![1024, 7888]⟩
abbrev S1024x512 : Shape := ⟨2, ![1024, 512]⟩
abbrev S1024x4 : Shape := ⟨2, ![1024, 4]⟩
abbrev S1024x384 : Shape := ⟨2, ![1024, 384]⟩
abbrev S1024x256 : Shape := ⟨2, ![1024, 256]⟩
abbrev S1024x64 : Shape := ⟨2, ![1024, 64]⟩
abbrev S1024x3072 : Shape := ⟨2, ![1024, 3072]⟩
abbrev S_ : Shape := ⟨0, ![]⟩
abbrev S1024x48 : Shape := ⟨2, ![1024, 48]⟩
abbrev S1024x768 : Shape := ⟨2, ![1024, 768]⟩
abbrev S32768x768 : Shape := ⟨2, ![32768, 768]⟩
abbrev S16x32768 : Shape := ⟨2, ![16, 32768]⟩
abbrev S512x1024 : Shape := ⟨2, ![512, 1024]⟩
abbrev S512x768 : Shape := ⟨2, ![512, 768]⟩
abbrev S16x512 : Shape := ⟨2, ![16, 512]⟩
abbrev S512x128 : Shape := ⟨2, ![512, 128]⟩
abbrev S128x512 : Shape := ⟨2, ![128, 512]⟩

abbrev nBuf : Space → Nat
  | .hbm => 25
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S1024x7888, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x4, .f32⟩
  | .hbm, ⟨7, _⟩ => ⟨S1024x4, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x4, .f32⟩
  | .hbm, ⟨13, _⟩ => ⟨S1024x4, .f32⟩
  | .hbm, ⟨14, _⟩ => ⟨S1024x384, .f32⟩
  | .hbm, ⟨15, _⟩ => ⟨S1024x256, .f32⟩
  | .hbm, ⟨16, _⟩ => ⟨S1024x64, .f32⟩
  | .hbm, ⟨17, _⟩ => ⟨S1024x3072, .f32⟩
  | .hbm, ⟨18, _⟩ => ⟨S_, .f32⟩
  | .hbm, ⟨19, _⟩ => ⟨S1024x48, .f32⟩
  | .hbm, ⟨20, _⟩ => ⟨S1024x768, .f32⟩
  | .hbm, ⟨21, _⟩ => ⟨S1024x768, .bf16⟩
  | .hbm, ⟨22, _⟩ => ⟨S32768x1024, .bf16⟩
  | .hbm, ⟨23, _⟩ => ⟨S32768x768, .f32⟩
  | .hbm, ⟨24, _⟩ => ⟨S16x32768, .f32⟩
  | .local _ .vmem, ⟨0, _⟩ => ⟨S512x1024, .bf16⟩
  | .local _ .vmem, ⟨1, _⟩ => ⟨S512x1024, .bf16⟩
  | .local _ .vmem, ⟨2, _⟩ => ⟨S1024x768, .bf16⟩
  | .local _ .vmem, ⟨3, _⟩ => ⟨S512x768, .f32⟩
  | .local _ .vmem, ⟨4, _⟩ => ⟨S512x768, .f32⟩
  | .local _ .vmem, ⟨5, _⟩ => ⟨S16x512, .f32⟩
  | .local _ .vmem, ⟨6, _⟩ => ⟨S16x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20_0 : Ref sig .tc := ⟨.hbm, 23, rfl⟩
abbrev main_v20_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LatentReferenceIdeal.lean ====
abbrev S32768x1024 : Shape := ⟨2, ![32768, 1024]⟩
abbrev S1024x7888 : Shape := ⟨2, ![1024, 7888]⟩
abbrev S32768x7888 : Shape := ⟨2, ![32768, 7888]⟩
abbrev S32768x8 : Shape := ⟨2, ![32768, 8]⟩
abbrev S32768x16 : Shape := ⟨2, ![32768, 16]⟩
abbrev S_ : Shape := ⟨0, ![]⟩
abbrev S32768x48 : Shape := ⟨2, ![32768, 48]⟩
abbrev S32768x704 : Shape := ⟨2, ![32768, 704]⟩
abbrev S32768x768 : Shape := ⟨2, ![32768, 768]⟩
abbrev S16x32768 : Shape := ⟨2, ![16, 32768]⟩

abbrev nBuf : Space → Nat
  | .hbm => 11
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x7888, .f32⟩
  | .hbm, ⟨2, _⟩ => ⟨S32768x7888, .f32⟩
  | .hbm, ⟨3, _⟩ => ⟨S32768x8, .f32⟩
  | .hbm, ⟨4, _⟩ => ⟨S32768x8, .f32⟩
  | .hbm, ⟨5, _⟩ => ⟨S32768x16, .f32⟩
  | .hbm, ⟨6, _⟩ => ⟨S_, .f32⟩
  | .hbm, ⟨7, _⟩ => ⟨S32768x48, .f32⟩
  | .hbm, ⟨8, _⟩ => ⟨S32768x704, .f32⟩
  | .hbm, ⟨9, _⟩ => ⟨S32768x768, .f32⟩
  | .hbm, ⟨10, _⟩ => ⟨S16x32768, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Merge.lean ====
abbrev S32768x512 : Shape := ⟨2, ![32768, 512]⟩
abbrev S32768x3072 : Shape := ⟨2, ![32768, 3072]⟩
abbrev S3072 : Shape := ⟨1, ![3072]⟩
abbrev S512x1024 : Shape := ⟨2, ![512, 1024]⟩
abbrev S1024x1024 : Shape := ⟨2, ![1024, 1024]⟩
abbrev S32768x1024 : Shape := ⟨2, ![32768, 1024]⟩
abbrev S1024 : Shape := ⟨1, ![1024]⟩
abbrev S1024x16 : Shape := ⟨2, ![1024, 16]⟩
abbrev S16 : Shape := ⟨1, ![16]⟩
abbrev S1024x32 : Shape := ⟨2, ![1024, 32]⟩
abbrev S_ : Shape := ⟨0, ![]⟩
abbrev S1024x128 : Shape := ⟨2, ![1024, 128]⟩
abbrev S1x512x1024 : Shape := ⟨3, ![1, 512, 1024]⟩
abbrev S3x512x1024 : Shape := ⟨3, ![3, 512, 1024]⟩
abbrev S1x3072 : Shape := ⟨2, ![1, 3072]⟩
abbrev S1x1024 : Shape := ⟨2, ![1, 1024]⟩
abbrev S16x1 : Shape := ⟨2, ![16, 1]⟩
abbrev S16x1024 : Shape := ⟨2, ![16, 1024]⟩
abbrev S512x512 : Shape := ⟨2, ![512, 512]⟩
abbrev S2x32768 : Shape := ⟨2, ![2, 32768]⟩
abbrev S16x128 : Shape := ⟨2, ![16, 128]⟩
abbrev S1024x512 : Shape := ⟨2, ![1024, 512]⟩
abbrev S1024x3072 : Shape := ⟨2, ![1024, 3072]⟩
abbrev S2x1024 : Shape := ⟨2, ![2, 1024]⟩
abbrev S512 : Shape := ⟨1, ![512]⟩
abbrev S512x1 : Shape := ⟨2, ![512, 1]⟩
abbrev S16x512 : Shape := ⟨2, ![16, 512]⟩
abbrev S512x128 : Shape := ⟨2, ![512, 128]⟩
abbrev S128x512 : Shape := ⟨2, ![128, 512]⟩
abbrev S1x512 : Shape := ⟨2, ![1, 512]⟩
abbrev S2x512 : Shape := ⟨2, ![2, 512]⟩

abbrev nBuf : Space → Nat
  | .hbm => 53
  | .vmem => 28
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S32768x3072, .f32⟩
  | .hbm, ⟨4, _⟩ => ⟨S3072, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S32768x1024, .f32⟩
  | .hbm, ⟨10, _⟩ => ⟨S1024, .f32⟩
  | .hbm, ⟨11, _⟩ => ⟨S1024, .f32⟩
  | .hbm, ⟨12, _⟩ => ⟨S1024x16, .f32⟩
  | .hbm, ⟨13, _⟩ => ⟨S16, .f32⟩
  | .hbm, ⟨14, _⟩ => ⟨S1024x16, .bf16⟩
  | .hbm, ⟨15, _⟩ => ⟨S1024x16, .f32⟩
  | .hbm, ⟨16, _⟩ => ⟨S1024x16, .f32⟩
  | .hbm, ⟨17, _⟩ => ⟨S1024x16, .bf16⟩
  | .hbm, ⟨18, _⟩ => ⟨S1024x32, .bf16⟩
  | .hbm, ⟨19, _⟩ => ⟨S_, .i32⟩
  | .hbm, ⟨20, _⟩ => ⟨S_, .bf16⟩
  | .hbm, ⟨21, _⟩ => ⟨S1024x128, .bf16⟩
  | .hbm, ⟨22, _⟩ => ⟨S1x512x1024, .f32⟩
  | .hbm, ⟨23, _⟩ => ⟨S1x512x1024, .f32⟩
  | .hbm, ⟨24, _⟩ => ⟨S1x512x1024, .f32⟩
  | .hbm, ⟨25, _⟩ => ⟨S3x512x1024, .f32⟩
  | .hbm, ⟨26, _⟩ => ⟨S3x512x1024, .bf16⟩
  | .hbm, ⟨27, _⟩ => ⟨S32768x512, .bf16⟩
  | .hbm, ⟨28, _⟩ => ⟨S32768x512, .bf16⟩
  | .hbm, ⟨29, _⟩ => ⟨S32768x512, .bf16⟩
  | .hbm, ⟨30, _⟩ => ⟨S32768x3072, .bf16⟩
  | .hbm, ⟨31, _⟩ => ⟨S1024x1024, .bf16⟩
  | .hbm, ⟨32, _⟩ => ⟨S1x3072, .f32⟩
  | .hbm, ⟨33, _⟩ => ⟨S1x1024, .f32⟩
  | .hbm, ⟨34, _⟩ => ⟨S1x1024, .f32⟩
  | .hbm, ⟨35, _⟩ => ⟨S16x1, .f32⟩
  | .hbm, ⟨36, _⟩ => ⟨S16x1024, .f32⟩
  | .hbm, ⟨37, _⟩ => ⟨S_, .bf16⟩
  | .hbm, ⟨38, _⟩ => ⟨S512x512, .bf16⟩
  | .hbm, ⟨39, _⟩ => ⟨S512x512, .i32⟩
  | .hbm, ⟨40, _⟩ => ⟨S_, .i32⟩
  | .hbm, ⟨41, _⟩ => ⟨S512x512, .i32⟩
  | .hbm, ⟨42, _⟩ => ⟨S512x512, .i32⟩
  | .hbm, ⟨43, _⟩ => ⟨S512x512, .i32⟩
  | .hbm, ⟨44, _⟩ => ⟨S512x512, .i1⟩
  | .hbm, ⟨45, _⟩ => ⟨S_, .bf16⟩
  | .hbm, ⟨46, _⟩ => ⟨S512x512, .bf16⟩
  | .hbm, ⟨47, _⟩ => ⟨S512x512, .bf16⟩
  | .hbm, ⟨48, _⟩ => ⟨S32768x1024, .f32⟩
  | .hbm, ⟨49, _⟩ => ⟨S2x32768, .i32⟩
  | .hbm, ⟨50, _⟩ => ⟨S2x32768, .f32⟩
  | .hbm, ⟨51, _⟩ => ⟨S2x32768, .i32⟩
  | .hbm, ⟨52, _⟩ => ⟨S16x128, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x3072, .bf16⟩
  | .local _ .vmem, ⟨7, _⟩ => ⟨S1024x3072, .bf16⟩
  | .local _ .vmem, ⟨8, _⟩ => ⟨S1x3072, .f32⟩
  | .local _ .vmem, ⟨9, _⟩ => ⟨S3x512x1024, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1x1024, .f32⟩
  | .local _ .vmem, ⟨15, _⟩ => ⟨S1024x128, .bf16⟩
  | .local _ .vmem, ⟨16, _⟩ => ⟨S16x1024, .f32⟩
  | .local _ .vmem, ⟨17, _⟩ => ⟨S512x512, .bf16⟩
  | .local _ .vmem, ⟨18, _⟩ => ⟨S1024x1024, .f32⟩
  | .local _ .vmem, ⟨19, _⟩ => ⟨S1024x1024, .f32⟩
  | .local _ .vmem, ⟨20, _⟩ => ⟨S2x1024, .i32⟩
  | .local _ .vmem, ⟨21, _⟩ => ⟨S2x1024, .i32⟩
  | .local _ .vmem, ⟨22, _⟩ => ⟨S2x1024, .f32⟩
  | .local _ .vmem, ⟨23, _⟩ => ⟨S2x1024, .f32⟩
  | .local _ .vmem, ⟨24, _⟩ => ⟨S2x1024, .i32⟩
  | .local _ .vmem, ⟨25, _⟩ => ⟨S2x1024, .i32⟩
  | .local _ .vmem, ⟨26, _⟩ => ⟨S16x128, .f32⟩
  | .local _ .vmem, ⟨27, _⟩ => ⟨S16x128, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_call0_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_call1_v0 : Ref sig .tc := ⟨.hbm, 39, rfl⟩
abbrev main_call1_c : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_cst : Ref sig .tc := ⟨.hbm, 45, rfl⟩
abbrev main_call1_v5 : Ref sig .tc := ⟨.hbm, 46, rfl⟩
abbrev main_v22 : Ref sig .tc := ⟨.hbm, 47, rfl⟩
abbrev main_v23_0 : Ref sig .tc := ⟨.hbm, 48, rfl⟩
abbrev main_v23_1 : Ref sig .tc := ⟨.hbm, 49, rfl⟩
abbrev main_v23_2 : Ref sig .tc := ⟨.hbm, 50, rfl⟩
abbrev main_v23_3 : Ref sig .tc := ⟨.hbm, 51, rfl⟩
abbrev main_v23_4 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x1024 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x1024 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S16x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== MergeReferenceIdeal.lean ====
abbrev S32768x512 : Shape := ⟨2, ![32768, 512]⟩
abbrev S32768x3072 : Shape := ⟨2, ![32768, 3072]⟩
abbrev S3072 : Shape := ⟨1, ![3072]⟩
abbrev S512x1024 : Shape := ⟨2, ![512, 1024]⟩
abbrev S1024x1024 : Shape := ⟨2, ![1024, 1024]⟩
abbrev S32768x1024 : Shape := ⟨2, ![32768, 1024]⟩
abbrev S1024 : Shape := ⟨1, ![1024]⟩
abbrev S1024x16 : Shape := ⟨2, ![1024, 16]⟩
abbrev S16 : Shape := ⟨1, ![16]⟩
abbrev S1x3072 : Shape := ⟨2, ![1, 3072]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 70
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S32768x3072, .f32⟩
  | .hbm, ⟨4, _⟩ => ⟨S3072, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S32768x1024, .f32⟩
  | .hbm, ⟨10, _⟩ => ⟨S1024, .f32⟩
  | .hbm, ⟨11, _⟩ => ⟨S1024, .f32⟩
  | .hbm, ⟨12, _⟩ => ⟨S1024x16, .f32⟩
  | .hbm, ⟨13, _⟩ => ⟨S16, .f32⟩
  | .hbm, ⟨14, _⟩ => ⟨S1x3072, .f32⟩
  | .hbm, ⟨15, _⟩ => ⟨S32768x3072, .f32⟩
  | .hbm, ⟨16, _⟩ => ⟨S32768x3072, .f32⟩
  | .hbm, ⟨17, _⟩ => ⟨S32768x3072, .f32⟩
  | .hbm, ⟨18, _⟩ => ⟨S32768x3072, .f32⟩
  | .hbm, ⟨19, _⟩ => ⟨S_, .f32⟩
  | .hbm, ⟨20, _⟩ => ⟨S32768x3072, .f32⟩
  | .hbm, ⟨21, _⟩ => ⟨S32768x3072, .f32⟩
  | .hbm, ⟨22, _⟩ => ⟨S_, .f32⟩
  | .hbm, ⟨23, _⟩ => ⟨S32768x3072, .f32⟩
  | .hbm, ⟨24, _⟩ => ⟨S32768x3072, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S_, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S32768, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S32768x1024, .f32⟩
  | .hbm, ⟨48, _⟩ => ⟨S32768x1024, .f32⟩
  | .hbm, ⟨49, _⟩ => ⟨S32768x1024, .f32⟩
  | .hbm, ⟨50, _⟩ => ⟨S_, .f32⟩
  | .hbm, ⟨51, _⟩ => ⟨S32768, .f32⟩
  | .hbm, ⟨52, _⟩ => ⟨S32768x1, .f32⟩
  | .hbm, ⟨53, _⟩ => ⟨S_, .f32⟩
  | .hbm, ⟨54, _⟩ => ⟨S32768x1, .f32⟩
  | .hbm, ⟨55, _⟩ => ⟨S32768x1, .f32⟩
  | .hbm, ⟨56, _⟩ => ⟨S32768x1024, .f32⟩
  | .hbm, ⟨57, _⟩ => ⟨S32768x1024, .f32⟩
  | .hbm, ⟨58, _⟩ => ⟨S_, .f32⟩
  | .hbm, ⟨59, _⟩ => ⟨S32768x1, .f32⟩
  | .hbm, ⟨60, _⟩ => ⟨S32768x1, .f32⟩
  | .hbm, ⟨61, _⟩ => ⟨S32768x1, .f32⟩
  | .hbm, ⟨62, _⟩ => ⟨S32768x1024, .f32⟩
  | .hbm, ⟨63, _⟩ => ⟨S32768x1024, .f32⟩
  | .hbm, ⟨64, _⟩ => ⟨S1x1024, .f32⟩
  | .hbm, ⟨65, _⟩ => ⟨S32768x1024, .f32⟩
  | .hbm, ⟨66, _⟩ => ⟨S32768x1024, .f32⟩
  | .hbm, ⟨67, _⟩ => ⟨S1x1024, .f32⟩
  | .hbm, ⟨68, _⟩ => ⟨S32768x1024, .f32⟩
  | .hbm, ⟨69, _⟩ => ⟨S32768x1024, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩

abbrev nD : Nat := 1
abbrev τ : Topo := Topo.v7x

variable {F : FTy → Type} [FloatOps F]
-- ==== Entry.lean ====
abbrev S32768x1024 : Shape := ⟨2, ![32768, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024, .f32⟩
  | .hbm, ⟨3, _⟩ => ⟨S1x1024, .f32⟩
  | .hbm, ⟨4, _⟩ => ⟨S1x1024, .f32⟩
  | .hbm, ⟨5, _⟩ => ⟨S32768x1024, .f32⟩
  | .hbm, ⟨6, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== EntryReferenceIdeal.lean ====
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1024, .f32⟩
  | .hbm, ⟨19, _⟩ => ⟨S32768x1024, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x1024, .f32⟩
  | .hbm, ⟨25, _⟩ => ⟨S32768x1024, .f32⟩
  | .hbm, ⟨26, _⟩ => ⟨S1x1024, .f32⟩
  | .hbm, ⟨27, _⟩ => ⟨S32768x1024, .f32⟩
  | .hbm, ⟨28, _⟩ => ⟨S32768x1024, .f32⟩
  | .hbm, ⟨29, _⟩ => ⟨S1x1024, .f32⟩
  | .hbm, ⟨30, _⟩ => ⟨S32768x1024, .f32⟩
  | .hbm, ⟨31, _⟩ => ⟨S32768x1024, .f32⟩
  | .hbm, ⟨32, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Proof.InMain.lean ====
/-
  The main columns of the input projection: the array the kernel leaves is the product with the gathered columns.
-/
module

public import proofs.«01_k».proof.Proof.Gen.MainIdeal.Value
public import proofs.«01_k».proof.Proof.Gen.MainReferenceIdeal.Run
public import Idealize.ShloMosaic.Lib.Pipeline.ValueKit
public import Idealize.ShloMosaic.Lib.Pointwise
public import Idealize.ShloMosaic.Lib.Claim

@[expose] public section

set_option maxRecDepth 16384

noncomputable section

namespace Cert.MainIdeal.InMain

open Idealize.ShloMosaic Idealize.ShloMosaic.TcCoe Idealize.ShloMosaic.Tactic Idealize.SL.Sem
open Cert.MainIdeal Cert.MainIdeal.Gen

variable (m : (ℓ : Loc nD τ sig) → Buf (Elt Ideal) ℓ) (c : Dev nD)

/-- The product over packed columns. -/
def product (a : FVec Ideal S32768x1024 .bf16) (w : FVec Ideal S1024x4096 .bf16) : FVec Ideal S32768x4096 .bf16 := fun y =>
  ∑ k : Fin 1024, a (ix2 (y 0) k) * w (ix2 k (y 1))

/-- The column of the input weights that gathered column `j` is: the scalar gates' eight columns between the two halves are left out. -/
def column (j : Fin 4096) : Fin 7888 := ⟨if j.val < 2048 then j.val else j.val + 8, by split <;> omega⟩

/-- The gathered columns: those of the gated delta rule, then those of the mLSTM. -/
def columns (w : FVec Ideal S1024x7888 .f32) : FVec Ideal S1024x4096 .bf16 :=
  truncf .bf16 (concatenate S1024x4096 1 [⟨S1024x512, extractStridedSlice S1024x512 ![0, 0] w slices_S1024x7888_S1024x512_0_0⟩,
    ⟨S1024x512, extractStridedSlice S1024x512 ![0, 512] w slices_S1024x7888_S1024x512_0_512⟩,
    ⟨S1024x512, extractStridedSlice S1024x512 ![0, 1024] w slices_S1024x7888_S1024x512_0_1024⟩,
    ⟨S1024x512, extractStridedSlice S1024x512 ![0, 1536] w slices_S1024x7888_S1024x512_0_1536⟩,
    ⟨S1024x512, extractStridedSlice S1024x512 ![0, 2056] w slices_S1024x7888_S1024x512_0_2056⟩,
    ⟨S1024x512, extractStridedSlice S1024x512 ![0, 2568] w slices_S1024x7888_S1024x512_0_2568⟩,
    ⟨S1024x512, extractStridedSlice S1024x512 ![0, 3080] w slices_S1024x7888_S1024x512_0_3080⟩,
    ⟨S1024x512, extractStridedSlice S1024x512 ![0, 3592] w slices_S1024x7888_S1024x512_0_3592⟩]
    concatenates_S1024x512_S1024x512_S1024x512_S1024x512_S1024x512_S1024x512_S1024x512_S1024x512_S1024x4096_d1) bitsLt_bf16_f32

/-- The activations, narrowed. -/
def rows (x : FVec Ideal S32768x1024 .f32) : FVec Ideal S32768x1024 .bf16 := truncf .bf16 x bitsLt_bf16_f32

/-- The region finds the activations. -/
theorem x_eq : V m c main_v16 = rows (m ((c : Thread nD τ).loc main_arg0)) := by
  unfold V hostOps0
  after_results_simp <;> rfl

/-- The region finds the gathered columns. -/
theorem w_eq : V m c main_v18 = columns (m ((c : Thread nD τ).loc main_arg1)) := by
  unfold V hostOps0
  after_results_simp <;> rfl

theorem columns_apply (w : FVec Ideal S1024x7888 .f32) (k : Fin 1024) (j : Fin 4096) :
    columns w (ix2 k j) = w (ix2 k (column j)) := by
  pointwise [columns]
  split_ifs <;> exact congrArg (fun z : Fin 7888 => w (ix2 k z)) (Fin.ext (by simp only [column]; split <;> omega))

/-- What the body leaves in the result's block. -/
theorem body_apply (x0 : Vec Ideal S512x1024 .bf16) (x1 : Vec Ideal S1024x2048 .bf16) (y : S512x2048.Idx) :
    out0_2 x0 x1 y = ∑ k : Fin 1024, x0 (ix2 (y 0) k) * x1 (ix2 k (y 1)) := by
  unfold out0_2
  canon_tiles x h
  all_goals
    open_payloads
    pointwise
  all_goals
    exact Finset.sum_congr rfl fun k _ => congrArg₂ (fun (a : Fin 512) (b : Fin 2048) => x0 (ix2 a k) * x1 (ix2 k b))
      (Fin.ext h0.symm) (Fin.ext h1.symm)

theorem idx : ∀ t : Fin cfg0.N,
    win0_0.index t = ![(grid0.coords t 1).val, 0]
    ∧ win0_1.index t = ![0, (grid0.coords t 0).val]
    ∧ win0_2.index t = ![(grid0.coords t 1).val, (grid0.coords t 0).val] :=
  (by decide +kernel : ∀ t : Fin grid0.N, _)

/-- The activations' block at grid point `t`. -/
theorem blockX (t : Fin cfg0.N) (r : Fin 512) (k : Fin 1024) (n : Fin 32768) (hn : n.val = 512 * (grid0.coords t 1).val + r.val) :
    (iblk m c 0 t : FVec Ideal S512x1024 .bf16) (ix2 r k) = (V m c main_v16 : FVec Ideal S32768x1024 .bf16) (ix2 n k) := by
  obtain ⟨e, -, -⟩ := idx t
  blk_ext [iblk, e]

/-- The columns' block at grid point `t`. -/
theorem blockW (t : Fin cfg0.N) (k : Fin 1024) (l : Fin 2048) (j : Fin 4096) (hj : j.val = 2048 * (grid0.coords t 0).val + l.val) :
    (iblk m c 1 t : FVec Ideal S1024x2048 .bf16) (ix2 k l) = (V m c main_v18 : FVec Ideal S1024x4096 .bf16) (ix2 k j) := by
  obtain ⟨-, e, -⟩ := idx t
  blk_ext [iblk, e]

/-- THE ARRAY after the run. -/
theorem final : (dats m 0 c).arrAt 2 cfg0.N = product (V m c main_v16) (V m c main_v18) := by
  refine (dats m 0 c).arrAt_eq_of_covers 2 _ (by decide +kernel) fun t _ y => ?_
  blk_simp
  rw [after0_2]
  obtain ⟨-, -, e⟩ := idx t
  have e0 : ((win0_2.blk t).view.emb y 0 : ℕ) = 512 * (grid0.coords t 1).val + (y 0 : ℕ) := by
    blk_simp [e]
    simp
    omega
  have e1 : ((win0_2.blk t).view.emb y 1 : ℕ) = 2048 * (grid0.coords t 0).val + (y 1 : ℕ) := by
    blk_simp [e]
    simp
    omega
  refine (body_apply _ _ _).trans (Finset.sum_congr rfl fun k _ => ?_)
  exact congrArg₂ (· * ·) (blockX m c t _ k _ e0) (blockW m c t k _ _ e1)

end Cert.MainIdeal.InMain

namespace Cert.MainReferenceIdeal.InMain

open Idealize.ShloMosaic Idealize.ShloMosaic.TcCoe Idealize.ShloMosaic.Tactic Idealize.SL.Sem
open Cert.MainReferenceIdeal Cert.MainReferenceIdeal.Gen

/-- The reference's result: the product's columns picked afterwards. -/
def picked (x : FVec Ideal S32768x1024 .f32) (w : FVec Ideal S1024x7888 .f32) : FVec Ideal S32768x4096 .bf16 :=
  truncf .bf16 (concatenate S32768x4096 1 [⟨S32768x2048, (extractStridedSlice S32768x2048 ![0, 0] (Host.dotGeneral dot_S32768x1024_S1024x7888_S32768x7888_1_0_0_1_n_n none x w) slices_S32768x7888_S32768x2048_0_0)⟩, ⟨S32768x2048, (extractStridedSlice S32768x2048 ![0, 2056] (Host.dotGeneral dot_S32768x1024_S1024x7888_S32768x7888_1_0_0_1_n_n none x w) slices_S32768x7888_S32768x2048_0_2056)⟩] concatenates_S32768x2048_S32768x2048_S32768x4096_d1) bitsLt_bf16_f32

theorem picked_apply (x : FVec Ideal S32768x1024 .f32) (w : FVec Ideal S1024x7888 .f32) (n : Fin 32768) (j : Fin 4096) :
    picked x w (ix2 n j)
      = ∑ k : Fin 1024, x (ix2 n k) * w (ix2 k (Cert.MainIdeal.InMain.column j)) := by
  pointwise [picked]
  split_ifs <;> exact Finset.sum_congr rfl fun k _ => congrArg (fun z : Fin 7888 => x (ix2 n k) * w (ix2 k z))
    (Fin.ext (by simp only [Cert.MainIdeal.InMain.column]; split <;> omega))

end Cert.MainReferenceIdeal.InMain

namespace Cert.InMain

open Idealize.ShloMosaic

/-- The kernel's product with the gathered columns is the reference's. -/
theorem equation (x : FVec Ideal Cert.MainIdeal.S32768x1024 .f32) (w : FVec Ideal Cert.MainIdeal.S1024x7888 .f32) :
    Cert.MainIdeal.InMain.product (Cert.MainIdeal.InMain.rows x) (Cert.MainIdeal.InMain.columns w)
      = Cert.MainReferenceIdeal.InMain.picked x w := by
  funext y
  obtain ⟨n, j, rfl⟩ : ∃ (n : Fin 32768) (j : Fin 4096), y = ix2 n j := ⟨y 0, y 1, by funext a; fin_cases a <;> rfl⟩
  rw [Cert.MainReferenceIdeal.InMain.picked_apply]
  exact Finset.sum_congr rfl fun k _ => congrArg (x (ix2 n k) * ·) (Cert.MainIdeal.InMain.columns_apply w k j)

end Cert.InMain

end
-- ==== Proof.InGate.lean ====
/-
  The gate columns of the input projection: the array the kernel leaves is the product with the columns sliced first.
-/
module

public import proofs.«01_k».proof.Proof.Gen.GateIdeal.Value
public import proofs.«01_k».proof.Proof.Gen.GateReferenceIdeal.Run
public import Idealize.ShloMosaic.Lib.Pipeline.ValueKit
public import Idealize.ShloMosaic.Lib.Pointwise
public import Idealize.ShloMosaic.Lib.Claim

@[expose] public section

set_option maxRecDepth 16384

noncomputable section

namespace Cert.GateIdeal.InGate

open Idealize.ShloMosaic Idealize.ShloMosaic.TcCoe Idealize.ShloMosaic.Tactic Idealize.SL.Sem
open Cert.GateIdeal Cert.GateIdeal.Gen

variable (m : (ℓ : Loc nD τ sig) → Buf (Elt Ideal) ℓ) (c : Dev nD)

/-- The product over packed columns. -/
def product (a : FVec Ideal S32768x1024 .bf16) (w : FVec Ideal S1024x3072 .bf16) : FVec Ideal S32768x3072 .bf16 := fun y =>
  ∑ k : Fin 1024, a (ix2 (y 0) k) * w (ix2 k (y 1))

/-- The column of the input weights that gate column `j` is. -/
def column (j : Fin 3072) : Fin 7888 := ⟨4816 + j.val, by omega⟩

/-- The gate columns. -/
def columns (w : FVec Ideal S1024x7888 .f32) : FVec Ideal S1024x3072 .bf16 :=
  truncf .bf16 (extractStridedSlice S1024x3072 ![0, 4816] w slices_S1024x7888_S1024x3072_0_4816) bitsLt_bf16_f32

/-- The activations, narrowed. -/
def rows (x : FVec Ideal S32768x1024 .f32) : FVec Ideal S32768x1024 .bf16 := truncf .bf16 x bitsLt_bf16_f32

/-- The region finds the activations. -/
theorem x_eq : V m c main_v0 = rows (m ((c : Thread nD τ).loc main_arg0)) := by
  unfold V hostOps0
  after_results_simp <;> rfl

/-- The region finds the gate columns. -/
theorem w_eq : V m c main_v17 = columns (m ((c : Thread nD τ).loc main_arg1)) := by
  unfold V hostOps0
  after_results_simp <;> rfl

theorem columns_apply (w : FVec Ideal S1024x7888 .f32) (k : Fin 1024) (j : Fin 3072) :
    columns w (ix2 k j) = w (ix2 k (column j)) := by
  pointwise [columns, column]

/-- What the body leaves in the result's block. -/
theorem body_apply (x0 : Vec Ideal S512x1024 .bf16) (x1 : Vec Ideal S1024x1536 .bf16) (y : S512x1536.Idx) :
    out0_2 x0 x1 y = ∑ k : Fin 1024, x0 (ix2 (y 0) k) * x1 (ix2 k (y 1)) := by
  unfold out0_2
  canon_tiles x h
  all_goals
    open_payloads
    pointwise
  all_goals
    exact Finset.sum_congr rfl fun k _ => congrArg₂ (fun (a : Fin 512) (b : Fin 1536) => x0 (ix2 a k) * x1 (ix2 k b))
      (Fin.ext h0.symm) (Fin.ext h1.symm)

theorem idx : ∀ t : Fin cfg0.N,
    win0_0.index t = ![(grid0.coords t 1).val, 0]
    ∧ win0_1.index t = ![0, (grid0.coords t 0).val]
    ∧ win0_2.index t = ![(grid0.coords t 1).val, (grid0.coords t 0).val] :=
  (by decide +kernel : ∀ t : Fin grid0.N, _)

/-- The activations' block at grid point `t`. -/
theorem blockX (t : Fin cfg0.N) (r : Fin 512) (k : Fin 1024) (n : Fin 32768) (hn : n.val = 512 * (grid0.coords t 1).val + r.val) :
    (iblk m c 0 t : FVec Ideal S512x1024 .bf16) (ix2 r k) = (V m c main_v0 : FVec Ideal S32768x1024 .bf16) (ix2 n k) := by
  obtain ⟨e, -, -⟩ := idx t
  blk_ext [iblk, e]

/-- The columns' block at grid point `t`. -/
theorem blockW (t : Fin cfg0.N) (k : Fin 1024) (l : Fin 1536) (j : Fin 3072) (hj : j.val = 1536 * (grid0.coords t 0).val + l.val) :
    (iblk m c 1 t : FVec Ideal S1024x1536 .bf16) (ix2 k l) = (V m c main_v17 : FVec Ideal S1024x3072 .bf16) (ix2 k j) := by
  obtain ⟨-, e, -⟩ := idx t
  blk_ext [iblk, e]

/-- THE ARRAY after the run. -/
theorem final : (dats m 0 c).arrAt 2 cfg0.N = product (V m c main_v0) (V m c main_v17) := by
  refine (dats m 0 c).arrAt_eq_of_covers 2 _ (by decide +kernel) fun t _ y => ?_
  blk_simp
  rw [after0_2]
  obtain ⟨-, -, e⟩ := idx t
  have e0 : ((win0_2.blk t).view.emb y 0 : ℕ) = 512 * (grid0.coords t 1).val + (y 0 : ℕ) := by
    blk_simp [e]
    simp
    omega
  have e1 : ((win0_2.blk t).view.emb y 1 : ℕ) = 1536 * (grid0.coords t 0).val + (y 1 : ℕ) := by
    blk_simp [e]
    simp
    omega
  refine (body_apply _ _ _).trans (Finset.sum_congr rfl fun k _ => ?_)
  exact congrArg₂ (· * ·) (blockX m c t _ k _ e0) (blockW m c t k _ _ e1)

end Cert.GateIdeal.InGate

namespace Cert.GateReferenceIdeal.InGate

open Idealize.ShloMosaic Idealize.ShloMosaic.TcCoe Idealize.ShloMosaic.Tactic Idealize.SL.Sem
open Cert.GateReferenceIdeal Cert.GateReferenceIdeal.Gen

/-- The reference's result: the product's columns picked afterwards. -/
def picked (x : FVec Ideal S32768x1024 .f32) (w : FVec Ideal S1024x7888 .f32) : FVec Ideal S32768x3072 .bf16 :=
  truncf .bf16 (extractStridedSlice S32768x3072 ![0, 4816] (Host.dotGeneral dot_S32768x1024_S1024x7888_S32768x7888_1_0_0_1_n_n none x w) slices_S32768x7888_S32768x3072_0_4816) bitsLt_bf16_f32

theorem picked_apply (x : FVec Ideal S32768x1024 .f32) (w : FVec Ideal S1024x7888 .f32) (n : Fin 32768) (j : Fin 3072) :
    picked x w (ix2 n j)
      = ∑ k : Fin 1024, x (ix2 n k) * w (ix2 k (Cert.GateIdeal.InGate.column j)) := by
  pointwise [picked, Cert.GateIdeal.InGate.column]

end Cert.GateReferenceIdeal.InGate

namespace Cert.InGate

open Idealize.ShloMosaic

/-- The kernel's product with the gate columns is the reference's. -/
theorem equation (x : FVec Ideal Cert.GateIdeal.S32768x1024 .f32) (w : FVec Ideal Cert.GateIdeal.S1024x7888 .f32) :
    Cert.GateIdeal.InGate.product (Cert.GateIdeal.InGate.rows x) (Cert.GateIdeal.InGate.columns w)
      = Cert.GateReferenceIdeal.InGate.picked x w := by
  funext y
  obtain ⟨n, j, rfl⟩ : ∃ (n : Fin 32768) (j : Fin 3072), y = ix2 n j := ⟨y 0, y 1, by funext a; fin_cases a <;> rfl⟩
  rw [Cert.GateReferenceIdeal.InGate.picked_apply]
  exact Finset.sum_congr rfl fun k _ => congrArg (x (ix2 n k) * ·) (Cert.GateIdeal.InGate.columns_apply w k j)

end Cert.InGate

end
-- ==== Proof.InLatent.lean ====
/-
  The latent columns of the input projection: the first array the kernel leaves is the product with the gathered columns, the
  second the transpose of its sixteen scalar gates.
-/
module

public import proofs.«01_k».proof.Proof.Gen.LatentIdeal.Value
public import proofs.«01_k».proof.Proof.Gen.LatentReferenceIdeal.Run
public import Idealize.ShloMosaic.Lib.Pipeline.ValueKit
public import Idealize.ShloMosaic.Lib.Pointwise
public import Idealize.ShloMosaic.Lib.Claim

@[expose] public section

set_option maxRecDepth 16384

noncomputable section

namespace Cert.LatentIdeal.InLatent

open Idealize.ShloMosaic Idealize.ShloMosaic.TcCoe Idealize.ShloMosaic.Tactic Idealize.SL.Sem
open Cert.LatentIdeal Cert.LatentIdeal.Gen

variable (m : (ℓ : Loc nD τ sig) → Buf (Elt Ideal) ℓ) (c : Dev nD)

/-- The product over packed columns. -/
def product (a : FVec Ideal S32768x1024 .bf16) (w : FVec Ideal S1024x768 .bf16) : FVec Ideal S32768x768 .f32 := fun y =>
  ∑ k : Fin 1024, a (ix2 (y 0) k) * w (ix2 k (y 1))

/-- The second result: the scalar gates' columns, transposed. -/
def gates (a : FVec Ideal S32768x1024 .bf16) (w : FVec Ideal S1024x768 .bf16) : FVec Ideal S16x32768 .f32 := fun y =>
  ∑ k : Fin 1024, a (ix2 (y 1) k) * w (ix2 k (⟨704 + (y 0).val, by have : (y 0).val < 16 := (y 0).isLt; omega⟩ : Fin 768))

/-- The column of the input weights that gathered column `j` is, for `j < 720`: the latents, then the scalar gates. -/
def column (j : Fin 768) : Fin 7888 :=
  ⟨if j.val < 704 then 4112 + j.val else if j.val < 712 then 1344 + j.val else 3392 + j.val, by split <;> [skip; split] <;> omega⟩

/-- The gathered columns, padded by zeros. -/
def columns (w : FVec Ideal S1024x7888 .f32) : FVec Ideal S1024x768 .bf16 :=
  truncf .bf16 (concatenate S1024x768 1 [⟨S1024x384, extractStridedSlice S1024x384 ![0, 4112] w slices_S1024x7888_S1024x384_0_4112⟩, ⟨S1024x256, extractStridedSlice S1024x256 ![0, 4496] w slices_S1024x7888_S1024x256_0_4496⟩, ⟨S1024x64, extractStridedSlice S1024x64 ![0, 4752] w slices_S1024x7888_S1024x64_0_4752⟩,
    ⟨S1024x4, extractStridedSlice S1024x4 ![0, 2048] w slices_S1024x7888_S1024x4_0_2048⟩, ⟨S1024x4, extractStridedSlice S1024x4 ![0, 2052] w slices_S1024x7888_S1024x4_0_2052⟩, ⟨S1024x4, extractStridedSlice S1024x4 ![0, 4104] w slices_S1024x7888_S1024x4_0_4104⟩, ⟨S1024x4, extractStridedSlice S1024x4 ![0, 4108] w slices_S1024x7888_S1024x4_0_4108⟩,
    ⟨S1024x48, broadcastInDim S1024x48 ![] bcast_S_S1024x48 (constant S_ .f32 0x00000000#32)⟩]
    concatenates_S1024x384_S1024x256_S1024x64_S1024x4_S1024x4_S1024x4_S1024x4_S1024x48_S1024x768_d1) bitsLt_bf16_f32

/-- The activations, narrowed. -/
def rows (x : FVec Ideal S32768x1024 .f32) : FVec Ideal S32768x1024 .bf16 := truncf .bf16 x bitsLt_bf16_f32

/-- The region finds the activations. -/
theorem x_eq : V m c main_v19 = rows (m ((c : Thread nD τ).loc main_arg0)) := by
  unfold V hostOps0
  after_results_simp <;> rfl

/-- The region finds the gathered columns. -/
theorem w_eq : V m c main_v18 = columns (m ((c : Thread nD τ).loc main_arg1)) := by
  unfold V hostOps0
  after_results_simp <;> rfl

theorem columns_apply (w : FVec Ideal S1024x7888 .f32) (k : Fin 1024) (j : Fin 768) :
    columns w (ix2 k j) = if j.val < 720 then w (ix2 k (column j)) else 0 := by
  pointwise [columns]
  by_cases h720 : j.val < 720
  · rw [if_pos h720]
    split_ifs <;> first
      | (exfalso; omega)
      | exact congrArg (fun z : Fin 7888 => w (ix2 k z)) (Fin.ext (by simp only [column]; split_ifs <;> omega))
  · rw [if_neg h720]
    split_ifs <;> first | rfl | (exfalso; omega)

/-- What the body leaves in the first result's block. -/
theorem body_apply (x0 : Vec Ideal S512x1024 .bf16) (x1 : Vec Ideal S1024x768 .bf16) (y : S512x768.Idx) :
    out0_2 x0 x1 y = ∑ k : Fin 1024, x0 (ix2 (y 0) k) * x1 (ix2 k (y 1)) := by
  frame_out
  pointwise [k0_pay1]

/-- What the body leaves in the second result's block. -/
theorem body_gates (x0 : Vec Ideal S512x1024 .bf16) (x1 : Vec Ideal S1024x768 .bf16) (y : S16x512.Idx) :
    out0_3 x0 x1 y = ∑ k : Fin 1024, x0 (ix2 (y 1) k) * x1 (ix2 k (⟨704 + (y 0).val, by have : (y 0).val < 16 := (y 0).isLt; omega⟩ : Fin 768)) := by
  frame_out
  pointwise [k0_pay2, k0_pay1]
  exact Finset.sum_congr rfl fun k _ => congrArg (fun z : Fin 768 => x0 (ix2 (y 1) k) * x1 (ix2 k z)) (Fin.ext (by simp only; omega))

theorem idx : ∀ t : Fin cfg0.N,
    win0_0.index t = ![(grid0.coords t 0).val, 0]
    ∧ win0_1.index t = ![0, 0]
    ∧ win0_2.index t = ![(grid0.coords t 0).val, 0]
    ∧ win0_3.index t = ![0, (grid0.coords t 0).val] :=
  (by decide +kernel : ∀ t : Fin grid0.N, _)

/-- The activations' block at grid point `t`. -/
theorem blockX (t : Fin cfg0.N) (r : Fin 512) (k : Fin 1024) (n : Fin 32768) (hn : n.val = 512 * (grid0.coords t 0).val + r.val) :
    (iblk m c 0 t : FVec Ideal S512x1024 .bf16) (ix2 r k) = (V m c main_v19 : FVec Ideal S32768x1024 .bf16) (ix2 n k) := by
  obtain ⟨e, -, -, -⟩ := idx t
  blk_ext [iblk, e]

/-- The columns' block is all of them at every grid point. -/
theorem blockW (t : Fin cfg0.N) (k : Fin 1024) (l j : Fin 768) (hj : j.val = l.val) :
    (iblk m c 1 t : FVec Ideal S1024x768 .bf16) (ix2 k l) = (V m c main_v18 : FVec Ideal S1024x768 .bf16) (ix2 k j) := by
  obtain ⟨-, e, -, -⟩ := idx t
  blk_ext [iblk, e]

/-- THE FIRST ARRAY after the run. -/
theorem final : (dats m 0 c).arrAt 2 cfg0.N = product (V m c main_v19) (V m c main_v18) := by
  refine (dats m 0 c).arrAt_eq_of_covers 2 _ (by decide +kernel) fun t _ y => ?_
  blk_simp
  rw [after0_2]
  obtain ⟨-, -, e, -⟩ := idx t
  have e0 : ((win0_2.blk t).view.emb y 0 : ℕ) = 512 * (grid0.coords t 0).val + (y 0 : ℕ) := by
    blk_simp [e]
    simp
    omega
  have e1 : ((win0_2.blk t).view.emb y 1 : ℕ) = (y 1 : ℕ) := by
    blk_simp [e]
  refine (body_apply _ _ _).trans (Finset.sum_congr rfl fun k _ => ?_)
  exact congrArg₂ (· * ·) (blockX m c t _ k _ e0) (blockW m c t k _ _ e1)

/-- THE SECOND ARRAY after the run. -/
theorem final_gates : (dats m 0 c).arrAt 3 cfg0.N = gates (V m c main_v19) (V m c main_v18) := by
  refine (dats m 0 c).arrAt_eq_of_covers 3 _ (by decide +kernel) fun t _ y => ?_
  blk_simp
  rw [after0_3]
  obtain ⟨-, -, -, e⟩ := idx t
  have e0 : ((win0_3.blk t).view.emb y 0 : ℕ) = (y 0 : ℕ) := by
    blk_simp [e]
  have e1 : ((win0_3.blk t).view.emb y 1 : ℕ) = 512 * (grid0.coords t 0).val + (y 1 : ℕ) := by
    blk_simp [e]
    simp
    omega
  refine (body_gates _ _ _).trans (Finset.sum_congr rfl fun k _ => ?_)
  exact congrArg₂ (· * ·) (blockX m c t _ k _ e1) (blockW m c t k _ _ (congrArg (704 + ·) e0))

end Cert.LatentIdeal.InLatent

namespace Cert.LatentReferenceIdeal.InLatent

open Idealize.ShloMosaic Idealize.ShloMosaic.TcCoe Idealize.ShloMosaic.Tactic Idealize.SL.Sem
open Cert.LatentReferenceIdeal Cert.LatentReferenceIdeal.Gen

/-- The reference's first result: the product's columns picked afterwards, padded by zeros. -/
def picked (x : FVec Ideal S32768x1024 .f32) (w : FVec Ideal S1024x7888 .f32) : FVec Ideal S32768x768 .f32 :=
  (concatenate S32768x768 1 [⟨S32768x704, ((extractStridedSlice S32768x704 ![0, 4112] (Host.dotGeneral dot_S32768x1024_S1024x7888_S32768x7888_1_0_0_1_n_n none x w) slices_S32768x7888_S32768x704_0_4112))⟩, ⟨S32768x16, ((concatenate S32768x16 1 [⟨S32768x8, (extractStridedSlice S32768x8 ![0, 2048] (Host.dotGeneral dot_S32768x1024_S1024x7888_S32768x7888_1_0_0_1_n_n none x w) slices_S32768x7888_S32768x8_0_2048)⟩, ⟨S32768x8, (extractStridedSlice S32768x8 ![0, 4104] (Host.dotGeneral dot_S32768x1024_S1024x7888_S32768x7888_1_0_0_1_n_n none x w) slices_S32768x7888_S32768x8_0_4104)⟩] concatenates_S32768x8_S32768x8_S32768x16_d1))⟩, ⟨S32768x48, ((broadcastInDim S32768x48 ![] bcast_S_S32768x48 (constant S_ .f32 0x00000000#32)))⟩] concatenates_S32768x704_S32768x16_S32768x48_S32768x768_d1)

/-- The reference's second result: the scalar gates transposed. -/
def scalars (x : FVec Ideal S32768x1024 .f32) (w : FVec Ideal S1024x7888 .f32) : FVec Ideal S16x32768 .f32 :=
  transpose S16x32768 [1, 0] (concatenate S32768x16 1 [⟨S32768x8, (extractStridedSlice S32768x8 ![0, 2048] (Host.dotGeneral dot_S32768x1024_S1024x7888_S32768x7888_1_0_0_1_n_n none x w) slices_S32768x7888_S32768x8_0_2048)⟩, ⟨S32768x8, (extractStridedSlice S32768x8 ![0, 4104] (Host.dotGeneral dot_S32768x1024_S1024x7888_S32768x7888_1_0_0_1_n_n none x w) slices_S32768x7888_S32768x8_0_4104)⟩] concatenates_S32768x8_S32768x8_S32768x16_d1) transposes_S32768x16_S16x32768_1_0

theorem picked_apply (x : FVec Ideal S32768x1024 .f32) (w : FVec Ideal S1024x7888 .f32) (n : Fin 32768) (j : Fin 768) :
    picked x w (ix2 n j)
      = if j.val < 720 then ∑ k : Fin 1024, x (ix2 n k) * w (ix2 k (Cert.LatentIdeal.InLatent.column j)) else 0 := by
  pointwise [picked]
  by_cases h720 : j.val < 720
  · rw [if_pos h720]
    split_ifs <;> first
      | (exfalso; omega)
      | exact Finset.sum_congr rfl fun k _ => congrArg (fun z : Fin 7888 => x (ix2 n k) * w (ix2 k z))
          (Fin.ext (by simp only [Cert.LatentIdeal.InLatent.column]; split_ifs <;> omega))
  · rw [if_neg h720]
    split_ifs <;> first | rfl | (exfalso; omega)

theorem scalars_apply (x : FVec Ideal S32768x1024 .f32) (w : FVec Ideal S1024x7888 .f32) (g : Fin 16) (n : Fin 32768) :
    scalars x w (ix2 g n)
      = ∑ k : Fin 1024, x (ix2 n k) * w (ix2 k (Cert.LatentIdeal.InLatent.column ⟨704 + g.val, by omega⟩)) := by
  pointwise [scalars]
  split_ifs <;> exact Finset.sum_congr rfl fun k _ => congrArg (fun z : Fin 7888 => x (ix2 n k) * w (ix2 k z))
    (Fin.ext (by simp only [Cert.LatentIdeal.InLatent.column]; split_ifs <;> omega))

end Cert.LatentReferenceIdeal.InLatent

namespace Cert.InLatent

open Idealize.ShloMosaic

/-- The kernel's product with the gathered columns is the reference's. -/
theorem equation (x : FVec Ideal Cert.LatentIdeal.S32768x1024 .f32) (w : FVec Ideal Cert.LatentIdeal.S1024x7888 .f32) :
    Cert.LatentIdeal.InLatent.product (Cert.LatentIdeal.InLatent.rows x) (Cert.LatentIdeal.InLatent.columns w)
      = Cert.LatentReferenceIdeal.InLatent.picked x w := by
  funext y
  obtain ⟨n, j, rfl⟩ : ∃ (n : Fin 32768) (j : Fin 768), y = ix2 n j := ⟨y 0, y 1, by funext a; fin_cases a <;> rfl⟩
  rw [Cert.LatentReferenceIdeal.InLatent.picked_apply]
  refine (Finset.sum_congr rfl fun k _ => congrArg (x (ix2 n k) * ·) (Cert.LatentIdeal.InLatent.columns_apply w k j)).trans ?_
  split
  · rfl
  · exact Finset.sum_eq_zero fun k _ => mul_zero _

/-- The kernel's transposed gates are the reference's. -/
theorem equation_gates (x : FVec Ideal Cert.LatentIdeal.S32768x1024 .f32) (w : FVec Ideal Cert.LatentIdeal.S1024x7888 .f32) :
    Cert.LatentIdeal.InLatent.gates (Cert.LatentIdeal.InLatent.rows x) (Cert.LatentIdeal.InLatent.columns w)
      = Cert.LatentReferenceIdeal.InLatent.scalars x w := by
  funext y
  obtain ⟨g, n, rfl⟩ : ∃ (g : Fin 16) (n : Fin 32768), y = ix2 g n := ⟨y 0, y 1, by funext a; fin_cases a <;> rfl⟩
  rw [Cert.LatentReferenceIdeal.InLatent.scalars_apply]
  refine Finset.sum_congr rfl fun k _ => congrArg (x (ix2 n k) * ·) ?_
  refine (Cert.LatentIdeal.InLatent.columns_apply w k ⟨704 + g.val, by omega⟩).trans (if_pos ?_)
  simp only
  omega

end Cert.InLatent

end
-- ==== Proof.MergeRow.lean ====
/-
  One row of the gated merge over the extended reals: the three gated branch products, the output projection, the scaled
  residual and the layer norm.
-/
module

public import Idealize.ShloMosaic.Lib.Pointwise

@[expose] public section

noncomputable section

namespace Merge

open Idealize.ShloMosaic

/-- The logistic function as the kernel writes it. -/
def gate (z : EReal) : EReal := Ideal.div 1 (1 + Ideal.exp (0 - z))

/-- The gates' arguments of the three branches in a row of `3 · 1024` logits. -/
def arg (h b : Fin 3072 → EReal) : Fin 3 → Fin 1024 → EReal :=
  ![fun j => h ⟨j.val, by omega⟩ + b ⟨j.val, by omega⟩,
    fun j => h ⟨1024 + j.val, by omega⟩ + b ⟨1024 + j.val, by omega⟩,
    fun j => h ⟨2048 + j.val, by omega⟩ + b ⟨2048 + j.val, by omega⟩]

/-- A row times a matrix. -/
def times {n l : ℕ} (y : Fin n → EReal) (w : Fin n → Fin l → EReal) (j : Fin l) : EReal := ∑ d, y d * w d j

/-- The three branch products, each times its gate, added. -/
def merged (z p : Fin 3 → Fin 1024 → EReal) (j : Fin 1024) : EReal :=
  gate (z 0 j) * p 0 j + gate (z 1 j) * p 1 j + gate (z 2 j) * p 2 j

/-- The residual: the scaled input and the projected branches. -/
def resid (x o : Fin 1024 → EReal) (j : Fin 1024) : EReal := Ideal.ofBits .f32 0x3FB504F3#32 * x j + o j

/-- The sum of a row over its width. -/
def mean (r : Fin 1024 → EReal) : EReal := Ideal.div (∑ j, r j) (Ideal.ofBits .f32 0x44800000#32)

/-- The layer norm of a row. -/
def norm (r g b : Fin 1024 → EReal) (j : Fin 1024) : EReal :=
  (r j - mean r) * Ideal.rsqrt (mean (fun k => (r k - mean r) * (r k - mean r)) + Ideal.ofBits .f32 0x3727C5AC#32) * g j + b j

/-- The whole row: gates' arguments `z`, branches `y` with weights `w`, output weights `o`, input `x`, scale `g`, shift `b`. -/
def row (z : Fin 3 → Fin 1024 → EReal) (y : Fin 3 → Fin 512 → EReal) (w : Fin 3 → Fin 512 → Fin 1024 → EReal)
    (o : Fin 1024 → Fin 1024 → EReal) (x g b : Fin 1024 → EReal) : Fin 1024 → EReal :=
  norm (resid x (times (merged z fun k => times (y k) (w k)) o)) g b

end Merge

end
-- ==== Proof.MergePay.lean ====
/-
  The merge kernel's vector operations read at one element, over the extended reals.
-/
module

public import proofs.«01_k».proof.Proof.Gen.MergeIdeal.Skeleton
public import proofs.«01_k».proof.Proof.MergeRow
public import Idealize.ShloMosaic.Lib.Pipeline.ValueKit

@[expose] public section

set_option maxRecDepth 16384

noncomputable section

namespace Cert.MergeIdeal.InMerge

open Idealize.ShloMosaic Idealize.ShloMosaic.TcCoe Idealize.ShloMosaic.Tactic Idealize.SL.Sem
open Cert.MergeIdeal Cert.MergeIdeal.Gen

/-- The branch products of the first half. -/
theorem pay2_apply (y : Vec Ideal S512x512 .bf16) (w : Vec Ideal S1x512x1024 .bf16) (r : Fin 512) (j : Fin 1024) :
    k0_pay2 (F := Ideal) y w (ix2 r j) = Merge.times (fun d : Fin 512 => y (ix2 r d)) (fun d j => w (ix3 0 d j)) j := by
  pointwise [k0_pay2]
  rfl

theorem pay3_apply (y : Vec Ideal S512x512 .bf16) (w : Vec Ideal S1x512x1024 .bf16) (r : Fin 512) (j : Fin 1024) :
    k0_pay3 (F := Ideal) y w (ix2 r j) = Merge.times (fun d : Fin 512 => y (ix2 r d)) (fun d j => w (ix3 0 d j)) j := by
  pointwise [k0_pay3]
  rfl

theorem pay4_apply (y : Vec Ideal S512x512 .bf16) (w : Vec Ideal S1x512x1024 .bf16) (r : Fin 512) (j : Fin 1024) :
    k0_pay4 (F := Ideal) y w (ix2 r j) = Merge.times (fun d : Fin 512 => y (ix2 r d)) (fun d j => w (ix3 0 d j)) j := by
  pointwise [k0_pay4]
  rfl

/-- The branch products of the second half. -/
theorem pay5_apply (y : Vec Ideal S512x512 .bf16) (w : Vec Ideal S1x512x1024 .bf16) (r : Fin 512) (j : Fin 1024) :
    k0_pay5 (F := Ideal) y w (ix2 r j) = Merge.times (fun d : Fin 512 => y (ix2 r d)) (fun d j => w (ix3 0 d j)) j := by
  pointwise [k0_pay5]
  rfl

theorem pay8_apply (y : Vec Ideal S512x512 .bf16) (w : Vec Ideal S1x512x1024 .bf16) (r : Fin 512) (j : Fin 1024) :
    k0_pay8 (F := Ideal) (k0_pay6 y) (k0_pay7 w) (ix2 r j)
      = Merge.times (fun d : Fin 512 => y (ix2 r d)) (fun d j => w (ix3 0 d j)) j := by
  pointwise [k0_pay8, k0_pay6, k0_pay7]
  rfl

theorem pay9_apply (y : Vec Ideal S512x512 .bf16) (w : Vec Ideal S1x512x1024 .bf16) (r : Fin 512) (j : Fin 1024) :
    k0_pay9 (F := Ideal) y w (ix2 r j) = Merge.times (fun d : Fin 512 => y (ix2 r d)) (fun d j => w (ix3 0 d j)) j := by
  pointwise [k0_pay9]
  rfl

/-- The projected branches of the first half. -/
theorem pay11_apply (p0 p1 p2 : FVec Ideal S512x1024 .f32) (z0 z1 z2 : Vec Ideal S512x1024 .bf16) (b0 b1 b2 : Vec Ideal S1x1024 .f32)
    (o : Vec Ideal S1024x1024 .bf16) (r : Fin 512) (j : Fin 1024) :
    k0_pay11 (F := Ideal) p2 (k0_pay10 p0 p1 z0 b0 z1 b1) z2 b2 o (ix2 r j)
      = Merge.times (Merge.merged ![fun k => z0 (ix2 r k) + b0 (ix2 0 k), fun k => z1 (ix2 r k) + b1 (ix2 0 k), fun k => z2 (ix2 r k) + b2 (ix2 0 k)]
          ![fun k => p0 (ix2 r k), fun k => p1 (ix2 r k), fun k => p2 (ix2 r k)]) (fun k j => o (ix2 k j)) j := by
  pointwise [k0_pay11, k0_pay10]
  rfl

/-- The projected branches of the second half. -/
theorem pay15_apply (p0 p1 p2 : FVec Ideal S512x1024 .f32) (z0 z1 z2 : Vec Ideal S512x1024 .bf16) (b0 b1 b2 : Vec Ideal S1x1024 .f32)
    (o : Vec Ideal S1024x1024 .bf16) (r : Fin 512) (j : Fin 1024) :
    k0_pay15 (F := Ideal) p1 p2 (k0_pay12 p0 z0 b0) (k0_pay13 z1) (k0_pay14 b1) z2 b2 o (ix2 r j)
      = Merge.times (Merge.merged ![fun k => z0 (ix2 r k) + b0 (ix2 0 k), fun k => z1 (ix2 r k) + b1 (ix2 0 k), fun k => z2 (ix2 r k) + b2 (ix2 0 k)]
          ![fun k => p0 (ix2 r k), fun k => p1 (ix2 r k), fun k => p2 (ix2 r k)]) (fun k j => o (ix2 k j)) j := by
  pointwise [k0_pay15, k0_pay12, k0_pay13, k0_pay14]
  rfl

/-- The norm of the first half. -/
theorem pay18_apply (q : FVec Ideal S512x1024 .f32) (x : Vec Ideal S512x1024 .f32) (g b : Vec Ideal S1x1024 .f32) (r : Fin 512) (j : Fin 1024) :
    k0_pay18 (F := Ideal) (k0_pay16 q x) (k0_pay17 g) b (ix2 r j)
      = Merge.norm (Merge.resid (fun k => x (ix2 r k)) fun k => q (ix2 r k)) (fun k => g (ix2 0 k)) (fun k => b (ix2 0 k)) j := by
  pointwise [k0_pay18, k0_pay16, k0_pay17]
  rfl

/-- The norm of the second half. -/
theorem pay94_apply (q : FVec Ideal S512x1024 .f32) (x : Vec Ideal S512x1024 .f32) (g b : Vec Ideal S1x1024 .f32) (r : Fin 512) (j : Fin 1024) :
    k0_pay94 (F := Ideal) (k0_pay90 g) (k0_pay91 b) (k0_pay92 q x) (k0_pay93 q x) (Scalar.ofBits (F := Ideal) .f32 0x44800000#32) (ix2 r j)
      = Merge.norm (Merge.resid (fun k => x (ix2 r k)) fun k => q (ix2 r k)) (fun k => g (ix2 0 k)) (fun k => b (ix2 0 k)) j := by
  pointwise [k0_pay94, k0_pay90, k0_pay91, k0_pay92, k0_pay93]
  rfl

/-- The result's block, from the input blocks. -/
def block (x0 x1 x2 : Vec Ideal S1024x512 .bf16) (x3 : Vec Ideal S1024x3072 .bf16) (x4 : Vec Ideal S1x3072 .f32) (x5 : Vec Ideal S3x512x1024 .bf16)
    (x6 : Vec Ideal S1024x1024 .bf16) (x7 : Vec Ideal S1024x1024 .f32) (x8 x9 : Vec Ideal S1x1024 .f32) (r : Fin 1024) (j : Fin 1024) : EReal :=
  Merge.row (Merge.arg (fun k => x3 (ix2 r k)) fun k => x4 (ix2 0 k))
    ![fun d : Fin 512 => x0 (ix2 r d), fun d => x1 (ix2 r d), fun d => x2 (ix2 r d)] (fun k d j => x5 (ix3 k d j))
    (fun k j => x6 (ix2 k j)) (fun k => x7 (ix2 r k)) (fun k => x8 (ix2 0 k)) (fun k => x9 (ix2 0 k)) j

/-- The first 512 rows of the block. -/
theorem top (x0 x1 x2 : Vec Ideal S1024x512 .bf16) (x3 : Vec Ideal S1024x3072 .bf16) (x4 : Vec Ideal S1x3072 .f32) (x5 : Vec Ideal S3x512x1024 .bf16)
    (x6 : Vec Ideal S1024x1024 .bf16) (x7 : Vec Ideal S1024x1024 .f32) (x8 x9 : Vec Ideal S1x1024 .f32) (r : Fin 512) (j : Fin 1024) :
    k0_pay18 (F := Ideal) (k0_pay16 (k0_pay11 (k0_pay4 (View.ld x2 (Rect.unit ![0, 0] ![512, 512] inb_S1024x512_S512x512_0_0)) (View.ld x5 (Rect.unit ![2, 0, 0] ![1, 512, 1024] inb_S3x512x1024_S1x512x1024_2_0_0))) (k0_pay10 (k0_pay2 (View.ld x0 (Rect.unit ![0, 0] ![512, 512] inb_S1024x512_S512x512_0_0)) (View.ld x5 (Rect.unit ![0, 0, 0] ![1, 512, 1024] inb_S3x512x1024_S1x512x1024_0_0_0))) (k0_pay3 (View.ld x1 (Rect.unit ![0, 0] ![512, 512] inb_S1024x512_S512x512_0_0)) (View.ld x5 (Rect.unit ![1, 0, 0] ![1, 512, 1024] inb_S3x512x1024_S1x512x1024_1_0_0))) (View.ld x3 (Rect.unit ![0, 0] ![512, 1024] inb_S1024x3072_S512x1024_0_0)) (View.ld x4 (Rect.unit ![0, 0] ![1, 1024] inb_S1x3072_S1x1024_0_0)) (View.ld x3 (Rect.unit ![0, 1024] ![512, 1024] inb_S1024x3072_S512x1024_0_1024)) (View.ld x4 (Rect.unit ![0, 1024] ![1, 1024] inb_S1x3072_S1x1024_0_1024))) (View.ld x3 (Rect.unit ![0, 2048] ![512, 1024] inb_S1024x3072_S512x1024_0_2048)) (View.ld x4 (Rect.unit ![0, 2048] ![1, 1024] inb_S1x3072_S1x1024_0_2048)) (View.ld x6 (Rect.unit ![0, 0] ![1024, 1024] inb_S1024x1024_S1024x1024_0_0))) (View.ld x7 (Rect.unit ![0, 0] ![512, 1024] inb_S1024x1024_S512x1024_0_0))) (k0_pay17 (View.ld x8 (Rect.unit ![0, 0] ![1, 1024] inb_S1x1024_S1x1024_0_0))) (View.ld x9 (Rect.unit ![0, 0] ![1, 1024] inb_S1x1024_S1x1024_0_0)) (ix2 r j)
      = block x0 x1 x2 x3 x4 x5 x6 x7 x8 x9 ⟨r.val, by omega⟩ j := by
  rw [pay18_apply, block, Merge.row]
  congr 1
  · funext k
    congr 1
    · funext l
      pointwise
    · funext l
      rw [pay11_apply]
      simp only [pay2_apply, pay3_apply, pay4_apply]
      unfold Merge.merged Merge.arg Merge.times
      pointwise
  · pointwise
  · pointwise

/-- The last 512 rows of the block. -/
theorem bottom (x0 x1 x2 : Vec Ideal S1024x512 .bf16) (x3 : Vec Ideal S1024x3072 .bf16) (x4 : Vec Ideal S1x3072 .f32) (x5 : Vec Ideal S3x512x1024 .bf16)
    (x6 : Vec Ideal S1024x1024 .bf16) (x7 : Vec Ideal S1024x1024 .f32) (x8 x9 : Vec Ideal S1x1024 .f32) (r : Fin 512) (j : Fin 1024) :
    k0_pay94 (F := Ideal) (k0_pay90 (View.ld x8 (Rect.unit ![0, 0] ![1, 1024] inb_S1x1024_S1x1024_0_0))) (k0_pay91 (View.ld x9 (Rect.unit ![0, 0] ![1, 1024] inb_S1x1024_S1x1024_0_0))) (k0_pay92 (k0_pay15 (k0_pay8 (k0_pay6 (View.ld x1 (Rect.unit ![512, 0] ![512, 512] inb_S1024x512_S512x512_512_0))) (k0_pay7 (View.ld x5 (Rect.unit ![1, 0, 0] ![1, 512, 1024] inb_S3x512x1024_S1x512x1024_1_0_0)))) (k0_pay9 (View.ld x2 (Rect.unit ![512, 0] ![512, 512] inb_S1024x512_S512x512_512_0)) (View.ld x5 (Rect.unit ![2, 0, 0] ![1, 512, 1024] inb_S3x512x1024_S1x512x1024_2_0_0))) (k0_pay12 (k0_pay5 (View.ld x0 (Rect.unit ![512, 0] ![512, 512] inb_S1024x512_S512x512_512_0)) (View.ld x5 (Rect.unit ![0, 0, 0] ![1, 512, 1024] inb_S3x512x1024_S1x512x1024_0_0_0))) (View.ld x3 (Rect.unit ![512, 0] ![512, 1024] inb_S1024x3072_S512x1024_512_0)) (View.ld x4 (Rect.unit ![0, 0] ![1, 1024] inb_S1x3072_S1x1024_0_0))) (k0_pay13 (View.ld x3 (Rect.unit ![512, 1024] ![512, 1024] inb_S1024x3072_S512x1024_512_1024))) (k0_pay14 (View.ld x4 (Rect.unit ![0, 1024] ![1, 1024] inb_S1x3072_S1x1024_0_1024))) (View.ld x3 (Rect.unit ![512, 2048] ![512, 1024] inb_S1024x3072_S512x1024_512_2048)) (View.ld x4 (Rect.unit ![0, 2048] ![1, 1024] inb_S1x3072_S1x1024_0_2048)) (View.ld x6 (Rect.unit ![0, 0] ![1024, 1024] inb_S1024x1024_S1024x1024_0_0))) (View.ld x7 (Rect.unit ![512, 0] ![512, 1024] inb_S1024x1024_S512x1024_512_0))) (k0_pay93 (k0_pay15 (k0_pay8 (k0_pay6 (View.ld x1 (Rect.unit ![512, 0] ![512, 512] inb_S1024x512_S512x512_512_0))) (k0_pay7 (View.ld x5 (Rect.unit ![1, 0, 0] ![1, 512, 1024] inb_S3x512x1024_S1x512x1024_1_0_0)))) (k0_pay9 (View.ld x2 (Rect.unit ![512, 0] ![512, 512] inb_S1024x512_S512x512_512_0)) (View.ld x5 (Rect.unit ![2, 0, 0] ![1, 512, 1024] inb_S3x512x1024_S1x512x1024_2_0_0))) (k0_pay12 (k0_pay5 (View.ld x0 (Rect.unit ![512, 0] ![512, 512] inb_S1024x512_S512x512_512_0)) (View.ld x5 (Rect.unit ![0, 0, 0] ![1, 512, 1024] inb_S3x512x1024_S1x512x1024_0_0_0))) (View.ld x3 (Rect.unit ![512, 0] ![512, 1024] inb_S1024x3072_S512x1024_512_0)) (View.ld x4 (Rect.unit ![0, 0] ![1, 1024] inb_S1x3072_S1x1024_0_0))) (k0_pay13 (View.ld x3 (Rect.unit ![512, 1024] ![512, 1024] inb_S1024x3072_S512x1024_512_1024))) (k0_pay14 (View.ld x4 (Rect.unit ![0, 1024] ![1, 1024] inb_S1x3072_S1x1024_0_1024))) (View.ld x3 (Rect.unit ![512, 2048] ![512, 1024] inb_S1024x3072_S512x1024_512_2048)) (View.ld x4 (Rect.unit ![0, 2048] ![1, 1024] inb_S1x3072_S1x1024_0_2048)) (View.ld x6 (Rect.unit ![0, 0] ![1024, 1024] inb_S1024x1024_S1024x1024_0_0))) (View.ld x7 (Rect.unit ![512, 0] ![512, 1024] inb_S1024x1024_S512x1024_512_0))) (Scalar.ofBits (F := Ideal) .f32 0x44800000#32) (ix2 r j)
      = block x0 x1 x2 x3 x4 x5 x6 x7 x8 x9 ⟨512 + r.val, by omega⟩ j := by
  rw [pay94_apply, block, Merge.row]
  congr 1
  · funext k
    congr 1
    · funext l
      pointwise
    · funext l
      rw [pay15_apply]
      simp only [pay5_apply, pay8_apply, pay9_apply]
      unfold Merge.merged Merge.arg Merge.times
      pointwise
  · pointwise
  · pointwise

end Cert.MergeIdeal.InMerge

end
-- ==== Proof.MergeBody.lean ====
/-
  The merge kernel's body: what a grid point leaves in the block of the result.
-/
module

public import proofs.«01_k».proof.Proof.Gen.MergeIdeal.Frame
public import proofs.«01_k».proof.Proof.MergePay
public import Idealize.ShloMosaic.Lib.Pipeline.ValueKit

@[expose] public section

set_option maxRecDepth 16384

noncomputable section

namespace Cert.MergeIdeal.InMerge

open Idealize.ShloMosaic Idealize.ShloMosaic.TcCoe Idealize.ShloMosaic.Tactic Idealize.SL.Sem
open Cert.MergeIdeal Cert.MergeIdeal.Gen

/-- What the first grid point leaves. -/
theorem bodyA (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1024x3072 .bf16) (harg4 : arg4.IsWhole) (arg5 : Memref sig .tc .vmem S1x3072 .f32) (harg5 : arg5.IsWhole) (arg6 : Memref sig .tc .vmem S3x512x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x128 .bf16) (harg11 : arg11.IsWhole) (arg12 : Memref sig .tc .vmem S16x1024 .f32) (harg12 : arg12.IsWhole) (arg13 : Memref sig .tc .vmem S512x512 .bf16) (harg13 : arg13.IsWhole) (arg14 : Memref sig .tc .vmem S1024x1024 .f32) (harg14 : arg14.IsWhole) (arg15 : Memref sig .tc .vmem S2x1024 .i32) (harg15 : arg15.IsWhole) (arg16 : Memref sig .tc .vmem S2x1024 .f32) (harg16 : arg16.IsWhole) (arg17 : Memref sig .tc .vmem S2x1024 .i32) (harg17 : arg17.IsWhole) (arg18 : Memref sig .tc .vmem S16x128 .f32) (harg18 : arg18.IsWhole) (arg19 : Memref sig .tc .vmem S16x128 .f32) (harg19 : arg19.IsWhole) (hc0 : cond0_0 i)
    (x0 : Vec Ideal S1024x512 .bf16) (x1 : Vec Ideal S1024x512 .bf16) (x2 : Vec Ideal S1024x512 .bf16) (x3 : Vec Ideal S1024x3072 .bf16) (x4 : Vec Ideal S1x3072 .f32) (x5 : Vec Ideal S3x512x1024 .bf16) (x6 : Vec Ideal S1024x1024 .bf16) (x7 : Vec Ideal S1024x1024 .f32) (x8 : Vec Ideal S1x1024 .f32) (x9 : Vec Ideal S1x1024 .f32) (x10 : Vec Ideal S1024x128 .bf16) (x11 : Vec Ideal S16x1024 .f32) (x12 : Vec Ideal S512x512 .bf16)  (y : S1024x1024.Idx) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 y = block x0 x1 x2 x3 x4 x5 x6 x7 x8 x9 (y 0) (y 1) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12)]
  unfold kernelRun0_A
  dsimp only
  sl_unfold_words
  canon_tiles x h
  all_goals
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
    obtain ⟨r, j, rfl⟩ : ∃ (r : Fin 512) (j : Fin 1024), x = ix2 r j := ⟨x 0, x 1, by funext a; fin_cases a <;> rfl⟩
  · refine (bottom x0 x1 x2 x3 x4 x5 x6 x7 x8 x9 r j).trans (congrArg₂ (block x0 x1 x2 x3 x4 x5 x6 x7 x8 x9) (Fin.ext ?_) (Fin.ext ?_))
    · exact h0.symm
    · exact h1.symm
  · refine (top x0 x1 x2 x3 x4 x5 x6 x7 x8 x9 r j).trans (congrArg₂ (block x0 x1 x2 x3 x4 x5 x6 x7 x8 x9) (Fin.ext ?_) (Fin.ext ?_))
    · exact h0.symm
    · exact h1.symm

/-- What every later grid point leaves. -/
theorem bodyB (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1024x3072 .bf16) (harg4 : arg4.IsWhole) (arg5 : Memref sig .tc .vmem S1x3072 .f32) (harg5 : arg5.IsWhole) (arg6 : Memref sig .tc .vmem S3x512x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x128 .bf16) (harg11 : arg11.IsWhole) (arg12 : Memref sig .tc .vmem S16x1024 .f32) (harg12 : arg12.IsWhole) (arg13 : Memref sig .tc .vmem S512x512 .bf16) (harg13 : arg13.IsWhole) (arg14 : Memref sig .tc .vmem S1024x1024 .f32) (harg14 : arg14.IsWhole) (arg15 : Memref sig .tc .vmem S2x1024 .i32) (harg15 : arg15.IsWhole) (arg16 : Memref sig .tc .vmem S2x1024 .f32) (harg16 : arg16.IsWhole) (arg17 : Memref sig .tc .vmem S2x1024 .i32) (harg17 : arg17.IsWhole) (arg18 : Memref sig .tc .vmem S16x128 .f32) (harg18 : arg18.IsWhole) (arg19 : Memref sig .tc .vmem S16x128 .f32) (harg19 : arg19.IsWhole) (hc0 : ¬cond0_0 i)
    (x0 : Vec Ideal S1024x512 .bf16) (x1 : Vec Ideal S1024x512 .bf16) (x2 : Vec Ideal S1024x512 .bf16) (x3 : Vec Ideal S1024x3072 .bf16) (x4 : Vec Ideal S1x3072 .f32) (x5 : Vec Ideal S3x512x1024 .bf16) (x6 : Vec Ideal S1024x1024 .bf16) (x7 : Vec Ideal S1024x1024 .f32) (x8 : Vec Ideal S1x1024 .f32) (x9 : Vec Ideal S1x1024 .f32) (x10 : Vec Ideal S1024x128 .bf16) (x11 : Vec Ideal S16x1024 .f32) (x12 : Vec Ideal S512x512 .bf16) (xs0 : Vec Ideal S16x128 .f32)  (y : S1024x1024.Idx) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xs0 y = block x0 x1 x2 x3 x4 x5 x6 x7 x8 x9 (y 0) (y 1) := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xs0)]
  unfold kernelRun0_B
  dsimp only
  sl_unfold_words
  canon_tiles x h
  all_goals
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
    obtain ⟨r, j, rfl⟩ : ∃ (r : Fin 512) (j : Fin 1024), x = ix2 r j := ⟨x 0, x 1, by funext a; fin_cases a <;> rfl⟩
  · refine (bottom x0 x1 x2 x3 x4 x5 x6 x7 x8 x9 r j).trans (congrArg₂ (block x0 x1 x2 x3 x4 x5 x6 x7 x8 x9) (Fin.ext ?_) (Fin.ext ?_))
    · exact h0.symm
    · exact h1.symm
  · refine (top x0 x1 x2 x3 x4 x5 x6 x7 x8 x9 r j).trans (congrArg₂ (block x0 x1 x2 x3 x4 x5 x6 x7 x8 x9) (Fin.ext ?_) (Fin.ext ?_))
    · exact h0.symm
    · exact h1.symm

end Cert.MergeIdeal.InMerge

end
-- ==== Proof.MergeHost.lean ====
/-
  The arrays the merge's call finds: the narrowed inputs, the stacked branch weights and the vectors as rows.
-/
module

public import proofs.«01_k».proof.Proof.Gen.MergeIdeal.Frame.Runs
public import Idealize.ShloMosaic.Lib.Pipeline.ValueKit
public import Idealize.ShloMosaic.Lib.Pointwise

@[expose] public section

set_option maxRecDepth 16384

noncomputable section

namespace Cert.MergeIdeal.InMerge

open Idealize.ShloMosaic Idealize.ShloMosaic.TcCoe Idealize.ShloMosaic.Tactic Idealize.SL.Sem
open Cert.MergeIdeal Cert.MergeIdeal.Gen

variable (m : (ℓ : Loc nD τ sig) → Buf (Elt Ideal) ℓ) (c : Dev nD)

/-- A branch's tokens, narrowed. -/
def tokens (y : FVec Ideal S32768x512 .f32) : FVec Ideal S32768x512 .bf16 := truncf .bf16 y bitsLt_bf16_f32

/-- The gate logits, narrowed. -/
def logits (h : FVec Ideal S32768x3072 .f32) : FVec Ideal S32768x3072 .bf16 := truncf .bf16 h bitsLt_bf16_f32

/-- The output weights, narrowed. -/
def outer (o : FVec Ideal S1024x1024 .f32) : FVec Ideal S1024x1024 .bf16 := truncf .bf16 o bitsLt_bf16_f32

/-- The branch weights, stacked. -/
def stacked (w0 w1 w2 : FVec Ideal S512x1024 .f32) : FVec Ideal S3x512x1024 .bf16 :=
  truncf .bf16 (concatenate S3x512x1024 0 [⟨S1x512x1024, broadcastInDim S1x512x1024 ![1, 2] bcast_S512x1024_S1x512x1024_1_2 w0⟩,
    ⟨S1x512x1024, broadcastInDim S1x512x1024 ![1, 2] bcast_S512x1024_S1x512x1024_1_2 w1⟩,
    ⟨S1x512x1024, broadcastInDim S1x512x1024 ![1, 2] bcast_S512x1024_S1x512x1024_1_2 w2⟩]
    concatenates_S1x512x1024_S1x512x1024_S1x512x1024_S3x512x1024_d0) bitsLt_bf16_f32

/-- The gate bias as a row. -/
def biasRow (b : FVec Ideal S3072 .f32) : FVec Ideal S1x3072 .f32 := shapeCast S1x3072 b shapeCasts_S3072_S1x3072

/-- The norm's vectors as rows. -/
def vecRow (g : FVec Ideal S1024 .f32) : FVec Ideal S1x1024 .f32 := shapeCast S1x1024 g shapeCasts_S1024_S1x1024

theorem y0_eq : V m c main_v11 = tokens (m ((c : Thread nD τ).loc main_arg0)) := by
  unfold V hostOps0 hostOps0_1 hostOps0_2 hostOps0_3
  after_results_simp <;> rfl

theorem y1_eq : V m c main_v12 = tokens (m ((c : Thread nD τ).loc main_arg1)) := by
  unfold V hostOps0 hostOps0_1 hostOps0_2 hostOps0_3
  after_results_simp <;> rfl

theorem y2_eq : V m c main_v13 = tokens (m ((c : Thread nD τ).loc main_arg2)) := by
  unfold V hostOps0 hostOps0_1 hostOps0_2 hostOps0_3
  after_results_simp <;> rfl

theorem logits_eq : V m c main_v14 = logits (m ((c : Thread nD τ).loc main_arg3)) := by
  unfold V hostOps0 hostOps0_1 hostOps0_2 hostOps0_3
  after_results_simp <;> rfl

theorem bias_eq : V m c main_v16 = biasRow (m ((c : Thread nD τ).loc main_arg4)) := by
  unfold V hostOps0 hostOps0_1 hostOps0_2 hostOps0_3
  after_results_simp <;> rfl

theorem stacked_eq : V m c main_v10 = stacked (m ((c : Thread nD τ).loc main_arg5)) (m ((c : Thread nD τ).loc main_arg6))
    (m ((c : Thread nD τ).loc main_arg7)) := by
  unfold V hostOps0 hostOps0_1 hostOps0_2 hostOps0_3
  after_results_simp <;> rfl

theorem outer_eq : V m c main_v15 = outer (m ((c : Thread nD τ).loc main_arg8)) := by
  unfold V hostOps0 hostOps0_1 hostOps0_2 hostOps0_3
  after_results_simp <;> rfl

theorem scale_eq : V m c main_v17 = vecRow (m ((c : Thread nD τ).loc main_arg10)) := by
  unfold V hostOps0 hostOps0_1 hostOps0_2 hostOps0_3
  after_results_simp <;> rfl

theorem shift_eq : V m c main_v18 = vecRow (m ((c : Thread nD τ).loc main_arg11)) := by
  unfold V hostOps0 hostOps0_1 hostOps0_2 hostOps0_3
  after_results_simp <;> rfl

theorem stacked_apply (w0 w1 w2 : FVec Ideal S512x1024 .f32) (k : Fin 3) (d : Fin 512) (j : Fin 1024) :
    stacked w0 w1 w2 (ix3 k d j) = (![fun d j => w0 (ix2 d j), fun d j => w1 (ix2 d j), fun d j => w2 (ix2 d j)] : Fin 3 → Fin 512 → Fin 1024 → EReal) k d j := by
  fin_cases k <;> pointwise [stacked] <;> rfl

theorem biasRow_apply (b : FVec Ideal S3072 .f32) (j : Fin 3072) : biasRow b (ix2 0 j) = b (ix1 j) := by
  pointwise [biasRow]

theorem vecRow_apply (g : FVec Ideal S1024 .f32) (j : Fin 1024) : vecRow g (ix2 0 j) = g (ix1 j) := by
  pointwise [vecRow]

end Cert.MergeIdeal.InMerge

end
-- ==== Proof.MergeRef.lean ====
/-
  The merge's reference read at one element: it is the row of `MergeRow.lean` of the plain arrays.
-/
module

public import proofs.«01_k».proof.Proof.Gen.MergeReferenceIdeal.Run
public import proofs.«01_k».proof.Proof.MergeRow

@[expose] public section

set_option maxRecDepth 16384

noncomputable section

namespace Cert.MergeReferenceIdeal.InMerge

open Idealize.ShloMosaic Idealize.ShloMosaic.TcCoe Idealize.ShloMosaic.Tactic Idealize.SL.Sem
open Cert.MergeReferenceIdeal Cert.MergeReferenceIdeal.Gen Cert.MergeReferenceIdeal.Value

/-- The gates. -/
def gates (h : FVec Ideal S32768x3072 .f32) (b : FVec Ideal S3072 .f32) : FVec Ideal S32768x3072 .f32 :=
  Host.divf (broadcastInDim S32768x3072 ![] bcast_S_S32768x3072 (constant S_ .f32 0x3F800000#32)) (addf (broadcastInDim S32768x3072 ![] bcast_S_S32768x3072 (constant S_ .f32 0x3F800000#32)) (Host.exp (Host.negf (addf h (broadcastInDim S32768x3072 ![0, 1] bcast_S1x3072_S32768x3072_0_1 (broadcastInDim S1x3072 ![1] bcast_S3072_S1x3072_1 b))))))

/-- The gated branches. -/
def merged (y0 : FVec Ideal S32768x512 .f32) (y1 : FVec Ideal S32768x512 .f32) (y2 : FVec Ideal S32768x512 .f32) (h : FVec Ideal S32768x3072 .f32) (b : FVec Ideal S3072 .f32) (w0 : FVec Ideal S512x1024 .f32) (w1 : FVec Ideal S512x1024 .f32) (w2 : FVec Ideal S512x1024 .f32) : FVec Ideal S32768x1024 .f32 :=
  addf (addf (mulf (extractStridedSlice S32768x1024 ![0, 0] (gates h b) slices_S32768x3072_S32768x1024_0_0) (Host.dotGeneral dot_S32768x512_S512x1024_S32768x1024_1_0_0_1_n_n none y0 w0)) (mulf (extractStridedSlice S32768x1024 ![0, 1024] (gates h b) slices_S32768x3072_S32768x1024_0_1024) (Host.dotGeneral dot_S32768x512_S512x1024_S32768x1024_1_0_0_1_n_n none y1 w1))) (mulf (extractStridedSlice S32768x1024 ![0, 2048] (gates h b) slices_S32768x3072_S32768x1024_0_2048) (Host.dotGeneral dot_S32768x512_S512x1024_S32768x1024_1_0_0_1_n_n none y2 w2))

/-- The residual. -/
def resid (z : FVec Ideal S32768x1024 .f32) (o : FVec Ideal S1024x1024 .f32) (x : FVec Ideal S32768x1024 .f32) : FVec Ideal S32768x1024 .f32 :=
  addf (mulf (broadcastInDim S32768x1024 ![] bcast_S_S32768x1024 (constant S_ .f32 0x3FB504F3#32)) x) (Host.dotGeneral dot_S32768x1024_S1024x1024_S32768x1024_1_0_0_1_n_n none z o)

/-- The rows' means. -/
def means (r : FVec Ideal S32768x1024 .f32) : FVec Ideal S32768x1 .f32 :=
  Host.divf (broadcastInDim S32768x1 ![0] bcast_S32768_S32768x1_0 (Host.reduceAdd r (constant S_ .f32 0x00000000#32) reducesTo_S32768x1024_S32768_d1 h_S_)) (broadcastInDim S32768x1 ![] bcast_S_S32768x1 (constant S_ .f32 0x44800000#32))

/-- The layer norm. -/
def norm (r : FVec Ideal S32768x1024 .f32) (g : FVec Ideal S1024 .f32) (b : FVec Ideal S1024 .f32) : FVec Ideal S32768x1024 .f32 :=
  addf (mulf (mulf (subf r (broadcastInDim S32768x1024 ![0, 1] bcast_S32768x1_S32768x1024_0_1 (means r))) (broadcastInDim S32768x1024 ![0, 1] bcast_S32768x1_S32768x1024_0_1 (Host.rsqrt (addf (Host.divf (broadcastInDim S32768x1 ![0] bcast_S32768_S32768x1_0 (Host.reduceAdd (mulf (subf r (broadcastInDim S32768x1024 ![0, 1] bcast_S32768x1_S32768x1024_0_1 (means r))) (subf r (broadcastInDim S32768x1024 ![0, 1] bcast_S32768x1_S32768x1024_0_1 (means r)))) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x3727C5AC#32)))))) (broadcastInDim S32768x1024 ![0, 1] bcast_S1x1024_S32768x1024_0_1 (broadcastInDim S1x1024 ![1] bcast_S1024_S1x1024_1 g))) (broadcastInDim S32768x1024 ![0, 1] bcast_S1x1024_S32768x1024_0_1 (broadcastInDim S1x1024 ![1] bcast_S1024_S1x1024_1 b))

theorem neg_eq (x : EReal) : -x = 0 - x := (zero_sub x).symm

theorem gates_apply (h : FVec Ideal S32768x3072 .f32) (b : FVec Ideal S3072 .f32) (n : Fin 32768) (j : Fin 3072) :
    gates h b (ix2 n j) = Merge.gate (h (ix2 n j) + b (ix1 j)) := by
  unfold gates Merge.gate
  pointwise
  rw [neg_eq]

theorem merged_apply (y0 : FVec Ideal S32768x512 .f32) (y1 : FVec Ideal S32768x512 .f32) (y2 : FVec Ideal S32768x512 .f32) (h : FVec Ideal S32768x3072 .f32) (b : FVec Ideal S3072 .f32) (w0 : FVec Ideal S512x1024 .f32) (w1 : FVec Ideal S512x1024 .f32) (w2 : FVec Ideal S512x1024 .f32) (n : Fin 32768) (j : Fin 1024) :
    merged y0 y1 y2 h b w0 w1 w2 (ix2 n j)
      = Merge.merged (Merge.arg (fun k => h (ix2 n k)) fun k => b (ix1 k))
          (fun k => Merge.times (![fun d : Fin 512 => y0 (ix2 n d), fun d => y1 (ix2 n d), fun d => y2 (ix2 n d)] k)
            (![fun d j => w0 (ix2 d j), fun d j => w1 (ix2 d j), fun d j => w2 (ix2 d j)] k)) j := by
  unfold merged
  pointwise
  simp only [gates_apply]
  rfl

theorem resid_apply (z : FVec Ideal S32768x1024 .f32) (o : FVec Ideal S1024x1024 .f32) (x : FVec Ideal S32768x1024 .f32) (n : Fin 32768) (j : Fin 1024) :
    resid z o x (ix2 n j) = Merge.resid (fun k => x (ix2 n k)) (Merge.times (fun k => z (ix2 n k)) fun k j => o (ix2 k j)) j := by
  unfold resid
  pointwise
  rfl

theorem norm_apply (r : FVec Ideal S32768x1024 .f32) (g : FVec Ideal S1024 .f32) (b : FVec Ideal S1024 .f32) (n : Fin 32768) (j : Fin 1024) :
    norm r g b (ix2 n j) = Merge.norm (fun k => r (ix2 n k)) (fun k => g (ix1 k)) (fun k => b (ix1 k)) j := by
  unfold norm means
  pointwise
  rfl

/-- THE REFERENCE at token `n` and column `j`. -/
theorem ref_apply (y0 : FVec Ideal S32768x512 .f32) (y1 : FVec Ideal S32768x512 .f32) (y2 : FVec Ideal S32768x512 .f32) (h : FVec Ideal S32768x3072 .f32) (b : FVec Ideal S3072 .f32) (w0 : FVec Ideal S512x1024 .f32) (w1 : FVec Ideal S512x1024 .f32) (w2 : FVec Ideal S512x1024 .f32) (o : FVec Ideal S1024x1024 .f32) (x : FVec Ideal S32768x1024 .f32) (g : FVec Ideal S1024 .f32) (s : FVec Ideal S1024 .f32) (n : Fin 32768) (j : Fin 1024) :
    norm (resid (merged y0 y1 y2 h b w0 w1 w2) o x) g s (ix2 n j)
      = Merge.row (Merge.arg (fun k => h (ix2 n k)) fun k => b (ix1 k))
          ![fun d : Fin 512 => y0 (ix2 n d), fun d => y1 (ix2 n d), fun d => y2 (ix2 n d)]
          ![fun d j => w0 (ix2 d j), fun d j => w1 (ix2 d j), fun d j => w2 (ix2 d j)]
          (fun k j => o (ix2 k j)) (fun k => x (ix2 n k)) (fun k => g (ix1 k)) (fun k => s (ix1 k)) j := by
  rw [norm_apply, Merge.row]
  congr 1
  funext k
  rw [resid_apply]
  congr 2
  funext l
  exact merged_apply ..

variable (m : (ℓ : Loc nD τ sig) → Buf (Elt Ideal) ℓ) (c : Dev nD)

/-- The reference's result is the composition of these. -/
theorem res_eq : res_out0 m c = norm (resid (merged (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9))) (m ((c.tc : Thread nD τ).loc main_arg10)) (m ((c.tc : Thread nD τ).loc main_arg11)) := rfl

end Cert.MergeReferenceIdeal.InMerge

end
-- ==== Proof.InMerge.lean ====
/-
  The gated merge: the array the kernel leaves is the reference's.
-/
module

public import proofs.«01_k».proof.Proof.Gen.MergeIdeal.Value
public import proofs.«01_k».proof.Proof.MergeBody
public import proofs.«01_k».proof.Proof.MergeHost
public import proofs.«01_k».proof.Proof.MergeRef
public import Idealize.ShloMosaic.Lib.Claim

@[expose] public section

set_option maxRecDepth 16384

noncomputable section

namespace Cert.MergeIdeal.InMerge

open Idealize.ShloMosaic Idealize.ShloMosaic.TcCoe Idealize.ShloMosaic.Tactic Idealize.SL.Sem
open Cert.MergeIdeal Cert.MergeIdeal.Gen

variable (m : (ℓ : Loc nD τ sig) → Buf (Elt Ideal) ℓ) (c : Dev nD)

/-- The rows of the merge, from the arrays the call finds. -/
def array (a0 a1 a2 : FVec Ideal S32768x512 .bf16) (a3 : FVec Ideal S32768x3072 .bf16) (a4 : FVec Ideal S1x3072 .f32)
    (a5 : FVec Ideal S3x512x1024 .bf16) (a6 : FVec Ideal S1024x1024 .bf16) (a7 : FVec Ideal S32768x1024 .f32)
    (a8 a9 : FVec Ideal S1x1024 .f32) : FVec Ideal S32768x1024 .f32 := fun y =>
  Merge.row (Merge.arg (fun k => a3 (ix2 (y 0) k)) fun k => a4 (ix2 0 k))
    ![fun d : Fin 512 => a0 (ix2 (y 0) d), fun d => a1 (ix2 (y 0) d), fun d => a2 (ix2 (y 0) d)] (fun k d j => a5 (ix3 k d j))
    (fun k j => a6 (ix2 k j)) (fun k => a7 (ix2 (y 0) k)) (fun k => a8 (ix2 0 k)) (fun k => a9 (ix2 0 k)) (y 1)

theorem idx : ∀ t : Fin cfg0.N,
    win0_0.index t = ![t.val, 0] ∧ win0_1.index t = ![t.val, 0] ∧ win0_2.index t = ![t.val, 0] ∧ win0_3.index t = ![t.val, 0]
    ∧ win0_4.index t = ![0, 0] ∧ win0_5.index t = ![0, 0, 0] ∧ win0_6.index t = ![0, 0] ∧ win0_7.index t = ![t.val, 0]
    ∧ win0_8.index t = ![0, 0] ∧ win0_9.index t = ![0, 0] ∧ win0_13.index t = ![t.val, 0] :=
  (by decide +kernel : ∀ t : Fin grid0.N, _)

theorem row_congr {z z' : Fin 3 → Fin 1024 → EReal} {y y' : Fin 3 → Fin 512 → EReal} {w w' : Fin 3 → Fin 512 → Fin 1024 → EReal}
    {o o' : Fin 1024 → Fin 1024 → EReal} {x x' g g' b b' : Fin 1024 → EReal} (hz : z = z') (hy : y = y') (hw : w = w') (ho : o = o')
    (hx : x = x') (hg : g = g') (hb : b = b') : Merge.row z y w o x g b = Merge.row z' y' w' o' x' g' b' := by
  rw [hz, hy, hw, ho, hx, hg, hb]

theorem vec_congr {y0 y1 y2 y0' y1' y2' : Fin 512 → EReal} (h0 : y0 = y0') (h1 : y1 = y1') (h2 : y2 = y2') :
    ![y0, y1, y2] = ![y0', y1', y2'] := by
  rw [h0, h1, h2]

/-! The blocks at grid point `t`. -/

theorem block0 (t : Fin cfg0.N) (r : Fin 1024) (k : Fin 512) (n : Fin 32768) (hn : n.val = 1024 * t.val + r.val) :
    (iblk m c 0 t : FVec Ideal S1024x512 .bf16) (ix2 r k) = (V m c main_v11 : FVec Ideal S32768x512 .bf16) (ix2 n k) := by
  obtain ⟨e, -⟩ := idx t
  blk_ext [iblk, e]

theorem block1 (t : Fin cfg0.N) (r : Fin 1024) (k : Fin 512) (n : Fin 32768) (hn : n.val = 1024 * t.val + r.val) :
    (iblk m c 1 t : FVec Ideal S1024x512 .bf16) (ix2 r k) = (V m c main_v12 : FVec Ideal S32768x512 .bf16) (ix2 n k) := by
  obtain ⟨-, e, -⟩ := idx t
  blk_ext [iblk, e]

theorem block2 (t : Fin cfg0.N) (r : Fin 1024) (k : Fin 512) (n : Fin 32768) (hn : n.val = 1024 * t.val + r.val) :
    (iblk m c 2 t : FVec Ideal S1024x512 .bf16) (ix2 r k) = (V m c main_v13 : FVec Ideal S32768x512 .bf16) (ix2 n k) := by
  obtain ⟨-, -, e, -⟩ := idx t
  blk_ext [iblk, e]

theorem block3 (t : Fin cfg0.N) (r : Fin 1024) (k : Fin 3072) (n : Fin 32768) (hn : n.val = 1024 * t.val + r.val) :
    (iblk m c 3 t : FVec Ideal S1024x3072 .bf16) (ix2 r k) = (V m c main_v14 : FVec Ideal S32768x3072 .bf16) (ix2 n k) := by
  obtain ⟨-, -, -, e, -⟩ := idx t
  blk_ext [iblk, e]

theorem block4 (t : Fin cfg0.N) (k : Fin 3072) :
    (iblk m c 4 t : FVec Ideal S1x3072 .f32) (ix2 0 k) = (V m c main_v16 : FVec Ideal S1x3072 .f32) (ix2 0 k) := by
  obtain ⟨-, -, -, -, e, -⟩ := idx t
  blk_ext [iblk, e]

theorem block5 (t : Fin cfg0.N) (k : Fin 3) (d : Fin 512) (j : Fin 1024) :
    (iblk m c 5 t : FVec Ideal S3x512x1024 .bf16) (ix3 k d j) = (V m c main_v10 : FVec Ideal S3x512x1024 .bf16) (ix3 k d j) := by
  obtain ⟨-, -, -, -, -, e, -⟩ := idx t
  blk_ext [iblk, e]

theorem block6 (t : Fin cfg0.N) (k j : Fin 1024) :
    (iblk m c 6 t : FVec Ideal S1024x1024 .bf16) (ix2 k j) = (V m c main_v15 : FVec Ideal S1024x1024 .bf16) (ix2 k j) := by
  obtain ⟨-, -, -, -, -, -, e, -⟩ := idx t
  blk_ext [iblk, e]

theorem block7 (t : Fin cfg0.N) (r k : Fin 1024) (n : Fin 32768) (hn : n.val = 1024 * t.val + r.val) :
    (iblk m c 7 t : FVec Ideal S1024x1024 .f32) (ix2 r k) = (V m c main_arg9 : FVec Ideal S32768x1024 .f32) (ix2 n k) := by
  obtain ⟨-, -, -, -, -, -, -, e, -⟩ := idx t
  blk_ext [iblk, e]

theorem block8 (t : Fin cfg0.N) (k : Fin 1024) :
    (iblk m c 8 t : FVec Ideal S1x1024 .f32) (ix2 0 k) = (V m c main_v17 : FVec Ideal S1x1024 .f32) (ix2 0 k) := by
  obtain ⟨-, -, -, -, -, -, -, -, e, -⟩ := idx t
  blk_ext [iblk, e]

theorem block9 (t : Fin cfg0.N) (k : Fin 1024) :
    (iblk m c 9 t : FVec Ideal S1x1024 .f32) (ix2 0 k) = (V m c main_v18 : FVec Ideal S1x1024 .f32) (ix2 0 k) := by
  obtain ⟨-, -, -, -, -, -, -, -, -, e, -⟩ := idx t
  blk_ext [iblk, e]

/-- What grid point `t` leaves in the result's block. -/
theorem left (t : Fin cfg0.N) (y : S1024x1024.Idx) :
    (outsAt0 m c t.val t.isLt).1 y
      = block (iblk m c 0 t) (iblk m c 1 t) (iblk m c 2 t) (iblk m c 3 t) (iblk m c 4 t) (iblk m c 5 t) (iblk m c 6 t)
          (iblk m c 7 t) (iblk m c 8 t) (iblk m c 9 t) (y 0) (y 1) := by
  by_cases h : t.val % 32 = 0
  · rw [outsAt0_A m c t h]
    dsimp only
    rw [bodyA]
  · rw [outsAt0_B m c t h]
    dsimp only
    rw [bodyB]

/-- The block's row is the arrays' row. -/
theorem block_eq (t : Fin cfg0.N) (r j : Fin 1024) (n : Fin 32768) (hn : n.val = 1024 * t.val + r.val) :
    block (iblk m c 0 t) (iblk m c 1 t) (iblk m c 2 t) (iblk m c 3 t) (iblk m c 4 t) (iblk m c 5 t) (iblk m c 6 t)
        (iblk m c 7 t) (iblk m c 8 t) (iblk m c 9 t) r j
      = array (V m c main_v11) (V m c main_v12) (V m c main_v13) (V m c main_v14) (V m c main_v16) (V m c main_v10) (V m c main_v15)
          (V m c main_arg9) (V m c main_v17) (V m c main_v18) (ix2 n j) := by
  have h0 := funext fun k => block0 m c t r k n hn
  have h1 := funext fun k => block1 m c t r k n hn
  have h2 := funext fun k => block2 m c t r k n hn
  have h3 := funext fun k => block3 m c t r k n hn
  have h4 := funext fun k => block4 m c t k
  have h5 := funext fun k => funext fun d => funext fun j => block5 m c t k d j
  have h6 := funext fun k => funext fun j => block6 m c t k j
  have h7 := funext fun k => block7 m c t r k n hn
  have h8 := funext fun k => block8 m c t k
  have h9 := funext fun k => block9 m c t k
  exact congrFun (row_congr (congrArg₂ Merge.arg h3 h4) (vec_congr h0 h1 h2) h5 h6 h7 h8 h9) j

/-- THE ARRAY after the run. -/
theorem final : (dats m 0 c).arrAt 13 cfg0.N
    = array (V m c main_v11) (V m c main_v12) (V m c main_v13) (V m c main_v14) (V m c main_v16) (V m c main_v10) (V m c main_v15)
        (V m c main_arg9) (V m c main_v17) (V m c main_v18) := by
  generalize hA : array (V m c main_v11) (V m c main_v12) (V m c main_v13) (V m c main_v14) (V m c main_v16) (V m c main_v10)
    (V m c main_v15) (V m c main_arg9) (V m c main_v17) (V m c main_v18) = A
  refine (dats m 0 c).arrAt_eq_of_covers 13 A (by decide +kernel) fun t _ y => ?_
  blk_simp
  rw [after0_13]
  obtain ⟨-, -, -, -, -, -, -, -, -, -, e⟩ := idx t
  have e0 : ((win0_13.blk t).view.emb y 0 : ℕ) = 1024 * t.val + (y 0 : ℕ) := by
    blk_simp [e]
    simp
    omega
  have e1 : ((win0_13.blk t).view.emb y 1 : ℕ) = (y 1 : ℕ) := by
    blk_simp [e]
  refine (left m c t _).trans ((block_eq m c t (y 0) (y 1) ((win0_13.blk t).view.emb y 0) e0).trans ?_)
  rw [hA]
  exact congrArg A (by
    funext a
    fin_cases a
    · rfl
    · exact Fin.ext e1.symm)

/-- The array of the arrays the program is given. -/
theorem equation (y0 y1 y2 : FVec Ideal S32768x512 .f32) (h : FVec Ideal S32768x3072 .f32) (b : FVec Ideal S3072 .f32)
    (w0 w1 w2 : FVec Ideal S512x1024 .f32) (o : FVec Ideal S1024x1024 .f32) (x : FVec Ideal S32768x1024 .f32) (g s : FVec Ideal S1024 .f32) :
    array (tokens y0) (tokens y1) (tokens y2) (logits h) (biasRow b) (stacked w0 w1 w2) (outer o) x (vecRow g) (vecRow s)
      = Cert.MergeReferenceIdeal.InMerge.norm (Cert.MergeReferenceIdeal.InMerge.resid
          (Cert.MergeReferenceIdeal.InMerge.merged y0 y1 y2 h b w0 w1 w2) o x) g s := by
  funext y
  obtain ⟨n, j, rfl⟩ : ∃ (n : Fin 32768) (j : Fin 1024), y = ix2 n j := ⟨y 0, y 1, by funext a; fin_cases a <;> rfl⟩
  rw [Cert.MergeReferenceIdeal.InMerge.ref_apply, array]
  simp only [biasRow_apply, vecRow_apply, stacked_apply]
  rfl

end Cert.MergeIdeal.InMerge

end
-- ==== Proof.InEntry.lean ====
/-
  The norm of the model's input: both arrays the kernel leaves, the normed rows and the same rows narrowed, are the reference's.
-/
module

public import proofs.«01_k».proof.Proof.Gen.EntryIdeal.Value
public import proofs.«01_k».proof.Proof.Gen.EntryReferenceIdeal.Run
public import proofs.«01_k».proof.Proof.MergeRow
public import Idealize.ShloMosaic.Lib.Pipeline.ValueKit
public import Idealize.ShloMosaic.Lib.Pointwise
public import Idealize.ShloMosaic.Lib.Claim

@[expose] public section

set_option maxRecDepth 16384

noncomputable section

namespace Cert.EntryIdeal.InEntry

open Idealize.ShloMosaic Idealize.ShloMosaic.TcCoe Idealize.ShloMosaic.Tactic Idealize.SL.Sem
open Cert.EntryIdeal Cert.EntryIdeal.Gen

variable (m : (ℓ : Loc nD τ sig) → Buf (Elt Ideal) ℓ) (c : Dev nD)

/-- The normed rows, from the arrays the call finds. -/
def array (x : FVec Ideal S32768x1024 .f32) (g b : FVec Ideal S1x1024 .f32) : FVec Ideal S32768x1024 .f32 := fun y =>
  Merge.norm (fun k => x (ix2 (y 0) k)) (fun k => g (ix2 0 k)) (fun k => b (ix2 0 k)) (y 1)

/-- The same rows, narrowed. -/
def narrow (x : FVec Ideal S32768x1024 .f32) : FVec Ideal S32768x1024 .bf16 := truncf .bf16 x bitsLt_bf16_f32

/-- A vector as a row. -/
def vecRow (g : FVec Ideal S1024 .f32) : FVec Ideal S1x1024 .f32 := shapeCast S1x1024 g shapeCasts_S1024_S1x1024

theorem scale_eq : V m c main_v0 = vecRow (m ((c : Thread nD τ).loc main_arg1)) := by
  unfold V hostOps0
  after_results_simp <;> rfl

theorem shift_eq : V m c main_v1 = vecRow (m ((c : Thread nD τ).loc main_arg2)) := by
  unfold V hostOps0
  after_results_simp <;> rfl

theorem vecRow_apply (g : FVec Ideal S1024 .f32) (j : Fin 1024) : vecRow g (ix2 0 j) = g (ix1 j) := by
  pointwise [vecRow]

/-- The block's row. -/
def row (x0 : Vec Ideal S512x1024 .f32) (x1 x2 : Vec Ideal S1x1024 .f32) (r : Fin 512) (j : Fin 1024) : EReal :=
  Merge.norm (fun k => x0 (ix2 r k)) (fun k => x1 (ix2 0 k)) (fun k => x2 (ix2 0 k)) j

/-- What the body leaves in the first result's block. -/
theorem body_apply (x0 : Vec Ideal S512x1024 .f32) (x1 x2 : Vec Ideal S1x1024 .f32) (y : S512x1024.Idx) :
    out0_3 x0 x1 x2 y = row x0 x1 x2 (y 0) (y 1) := by
  obtain ⟨r, j, rfl⟩ : ∃ (r : Fin 512) (j : Fin 1024), y = ix2 r j := ⟨y 0, y 1, by funext a; fin_cases a <;> rfl⟩
  frame_out
  pointwise [k0_pay1]
  rfl

/-- What the body leaves in the second result's block. -/
theorem body_narrow (x0 : Vec Ideal S512x1024 .f32) (x1 x2 : Vec Ideal S1x1024 .f32) (y : S512x1024.Idx) :
    out0_4 x0 x1 x2 y = row x0 x1 x2 (y 0) (y 1) := by
  obtain ⟨r, j, rfl⟩ : ∃ (r : Fin 512) (j : Fin 1024), y = ix2 r j := ⟨y 0, y 1, by funext a; fin_cases a <;> rfl⟩
  frame_out
  pointwise [k0_pay2, k0_pay1]
  rfl

theorem idx : ∀ t : Fin cfg0.N,
    win0_0.index t = ![t.val, 0] ∧ win0_1.index t = ![0, 0] ∧ win0_2.index t = ![0, 0] ∧ win0_3.index t = ![t.val, 0]
    ∧ win0_4.index t = ![t.val, 0] :=
  (by decide +kernel : ∀ t : Fin grid0.N, _)

/-- The rows' block at grid point `t`. -/
theorem blockX (t : Fin cfg0.N) (r : Fin 512) (k : Fin 1024) (n : Fin 32768) (hn : n.val = 512 * t.val + r.val) :
    (iblk m c 0 t : FVec Ideal S512x1024 .f32) (ix2 r k) = (V m c main_arg0 : FVec Ideal S32768x1024 .f32) (ix2 n k) := by
  obtain ⟨e, -⟩ := idx t
  blk_ext [iblk, e]

/-- The scale's block is all of it at every grid point. -/
theorem blockG (t : Fin cfg0.N) (k : Fin 1024) :
    (iblk m c 1 t : FVec Ideal S1x1024 .f32) (ix2 0 k) = (V m c main_v0 : FVec Ideal S1x1024 .f32) (ix2 0 k) := by
  obtain ⟨-, e, -⟩ := idx t
  blk_ext [iblk, e]

/-- The shift's block is all of it at every grid point. -/
theorem blockB (t : Fin cfg0.N) (k : Fin 1024) :
    (iblk m c 2 t : FVec Ideal S1x1024 .f32) (ix2 0 k) = (V m c main_v1 : FVec Ideal S1x1024 .f32) (ix2 0 k) := by
  obtain ⟨-, -, e, -⟩ := idx t
  blk_ext [iblk, e]

theorem norm_congr {x x' g g' b b' : Fin 1024 → EReal} (hx : x = x') (hg : g = g') (hb : b = b') :
    Merge.norm x g b = Merge.norm x' g' b' := by
  rw [hx, hg, hb]

/-- The block's row is the arrays' row. -/
theorem block_eq (t : Fin cfg0.N) (r : Fin 512) (j : Fin 1024) (n : Fin 32768) (hn : n.val = 512 * t.val + r.val) :
    row (iblk m c 0 t) (iblk m c 1 t) (iblk m c 2 t) r j = array (V m c main_arg0) (V m c main_v0) (V m c main_v1) (ix2 n j) := by
  have h0 := funext fun k => blockX m c t r k n hn
  have h1 := funext fun k => blockG m c t k
  have h2 := funext fun k => blockB m c t k
  exact congrFun (norm_congr h0 h1 h2) j

/-- THE FIRST ARRAY after the run. -/
theorem final : (dats m 0 c).arrAt 3 cfg0.N = array (V m c main_arg0) (V m c main_v0) (V m c main_v1) := by
  generalize hA : array (V m c main_arg0) (V m c main_v0) (V m c main_v1) = A
  refine (dats m 0 c).arrAt_eq_of_covers 3 A (by decide +kernel) fun t _ y => ?_
  blk_simp
  rw [after0_3]
  obtain ⟨-, -, -, e, -⟩ := idx t
  have e0 : ((win0_3.blk t).view.emb y 0 : ℕ) = 512 * t.val + (y 0 : ℕ) := by
    blk_simp [e]
    simp
    omega
  have e1 : ((win0_3.blk t).view.emb y 1 : ℕ) = (y 1 : ℕ) := by
    blk_simp [e]
  refine (body_apply _ _ _ _).trans ((block_eq m c t (y 0) (y 1) ((win0_3.blk t).view.emb y 0) e0).trans ?_)
  rw [hA]
  exact congrArg A (by
    funext a
    fin_cases a
    · rfl
    · exact Fin.ext e1.symm)

/-- THE SECOND ARRAY after the run. -/
theorem final_narrow : (dats m 0 c).arrAt 4 cfg0.N = narrow (array (V m c main_arg0) (V m c main_v0) (V m c main_v1)) := by
  generalize hA : array (V m c main_arg0) (V m c main_v0) (V m c main_v1) = A
  refine (dats m 0 c).arrAt_eq_of_covers 4 (narrow A) (by decide +kernel) fun t _ y => ?_
  blk_simp
  rw [after0_4]
  obtain ⟨-, -, -, -, e⟩ := idx t
  have e0 : ((win0_4.blk t).view.emb y 0 : ℕ) = 512 * t.val + (y 0 : ℕ) := by
    blk_simp [e]
    simp
    omega
  have e1 : ((win0_4.blk t).view.emb y 1 : ℕ) = (y 1 : ℕ) := by
    blk_simp [e]
  refine (body_narrow _ _ _ _).trans ((block_eq m c t (y 0) (y 1) ((win0_4.blk t).view.emb y 0) e0).trans ?_)
  rw [hA]
  exact congrArg A (by
    funext a
    fin_cases a
    · rfl
    · exact Fin.ext e1.symm)

end Cert.EntryIdeal.InEntry

namespace Cert.EntryReferenceIdeal.InEntry

open Idealize.ShloMosaic Idealize.ShloMosaic.TcCoe Idealize.ShloMosaic.Tactic Idealize.SL.Sem
open Cert.EntryReferenceIdeal Cert.EntryReferenceIdeal.Gen

/-- The rows' means. -/
def means (r : FVec Ideal S32768x1024 .f32) : FVec Ideal S32768x1 .f32 :=
  Host.divf (broadcastInDim S32768x1 ![0] bcast_S32768_S32768x1_0 (Host.reduceAdd r (constant S_ .f32 0x00000000#32) reducesTo_S32768x1024_S32768_d1 h_S_)) (broadcastInDim S32768x1 ![] bcast_S_S32768x1 (constant S_ .f32 0x44800000#32))

/-- The layer norm. -/
def norm (r : FVec Ideal S32768x1024 .f32) (g : FVec Ideal S1024 .f32) (b : FVec Ideal S1024 .f32) : FVec Ideal S32768x1024 .f32 :=
  addf (mulf (mulf (subf r (broadcastInDim S32768x1024 ![0, 1] bcast_S32768x1_S32768x1024_0_1 (means r))) (broadcastInDim S32768x1024 ![0, 1] bcast_S32768x1_S32768x1024_0_1 (Host.rsqrt (addf (Host.divf (broadcastInDim S32768x1 ![0] bcast_S32768_S32768x1_0 (Host.reduceAdd (mulf (subf r (broadcastInDim S32768x1024 ![0, 1] bcast_S32768x1_S32768x1024_0_1 (means r))) (subf r (broadcastInDim S32768x1024 ![0, 1] bcast_S32768x1_S32768x1024_0_1 (means r)))) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x3727C5AC#32)))))) (broadcastInDim S32768x1024 ![0, 1] bcast_S1x1024_S32768x1024_0_1 (broadcastInDim S1x1024 ![1] bcast_S1024_S1x1024_1 g))) (broadcastInDim S32768x1024 ![0, 1] bcast_S1x1024_S32768x1024_0_1 (broadcastInDim S1x1024 ![1] bcast_S1024_S1x1024_1 b))

/-- The layer norm, narrowed. -/
def narrow (r : FVec Ideal S32768x1024 .f32) (g : FVec Ideal S1024 .f32) (b : FVec Ideal S1024 .f32) : FVec Ideal S32768x1024 .bf16 :=
  truncf .bf16 (norm r g b) bitsLt_bf16_f32

theorem norm_apply (r : FVec Ideal S32768x1024 .f32) (g : FVec Ideal S1024 .f32) (b : FVec Ideal S1024 .f32) (n : Fin 32768) (j : Fin 1024) :
    norm r g b (ix2 n j) = Merge.norm (fun k => r (ix2 n k)) (fun k => g (ix1 k)) (fun k => b (ix1 k)) j := by
  unfold norm means
  pointwise
  rfl

end Cert.EntryReferenceIdeal.InEntry

namespace Cert.InEntry

open Idealize.ShloMosaic

/-- The kernel's normed rows are the reference's. -/
theorem equation (x : FVec Ideal Cert.EntryIdeal.S32768x1024 .f32) (g b : FVec Ideal Cert.EntryIdeal.S1024 .f32) :
    Cert.EntryIdeal.InEntry.array x (Cert.EntryIdeal.InEntry.vecRow g) (Cert.EntryIdeal.InEntry.vecRow b)
      = Cert.EntryReferenceIdeal.InEntry.norm x g b := by
  funext y
  obtain ⟨n, j, rfl⟩ : ∃ (n : Fin 32768) (j : Fin 1024), y = ix2 n j := ⟨y 0, y 1, by funext a; fin_cases a <;> rfl⟩
  rw [Cert.EntryReferenceIdeal.InEntry.norm_apply, Cert.EntryIdeal.InEntry.array]
  simp only [Cert.EntryIdeal.InEntry.vecRow_apply]
  rfl

end Cert.InEntry

end
-- ==== Proof.Trip.lean ====
/-
  What one trip of the attention kernel's loop over key tiles yields, how many trips it makes, and what the body leaves
  in its output block, in terms of the blocks its windows stage.
-/
module

public import proofs.«01_k».proof.Proof.Gen.KernelIdeal.Value
public import Idealize.ShloMosaic.Lib.Pipeline.ValueKit

@[expose] public section

set_option maxRecDepth 16384

noncomputable section

namespace Cert.KernelIdeal.Attn

open Idealize.ShloMosaic Idealize.ShloMosaic.TcCoe Idealize.ShloMosaic.Tactic Idealize.SL.Sem
open Cert.KernelIdeal Cert.KernelIdeal.Gen

variable {F : FTy → Type} [FloatOps F]

/-- The loop over the full tiles makes as many trips as the query tile's number. -/
theorem trips1 : ∀ i : grid0.Coords, (k0_t1_loop i).trips = (i 2).val := by decide +kernel

/-- The loop over the tiles between the full ones and the diagonal one makes none. -/
theorem trips2 : ∀ i : grid0.Coords, (k0_t2_loop i).trips = 0 := by decide +kernel

/-- The rectangle of a staged block that a load reads. -/
abbrev ld (x : Vec F S8192x512 .bf16) (off : Fin 2 → ℕ) (h : ∀ a, off a + S1024x256.size a ≤ S8192x512.size a) :
    Vec F S1024x256 .bf16 :=
  View.ld x (Rect.unit (s := S8192x512) off S1024x256.size h)

theorem trip (c : Dev nD) (i : grid0.Coords)
    (a3 : Memref sig .tc .vmem S1024x512 .bf16) (h3 : a3.IsWhole) (a4 : Memref sig .tc .vmem S8192x512 .bf16) (h4 : a4.IsWhole)
    (a5 : Memref sig .tc .vmem S8192x512 .bf16) (h5 : a5.IsWhole) (a6 : Memref sig .tc .vmem S1024x256 .bf16) (h6 : a6.IsWhole)
    (q0 q1 : Vec F S1024x256 .bf16) (x1 x2 : Vec F S8192x512 .bf16) (k : Fin (k0_t1_loop i).trips)
    (acc : FVec F S1024x1 .bf16 × FVec F S1024x256 .f32 × FVec F S1024x1 .bf16 × FVec F S1024x256 .f32) :
    tripR_k0_t1 (F := F) Variants.none c none i a3 h3 a4 h4 a5 h5 a6 h6 q0 q1 (h4.unread x1) (h5.unread x2) k acc
      = (k0_pay10 q0 acc.1 (ld x1 (k0_off1 i k) (k0_off1_inb i k)),
         k0_pay11 q0 acc.1 acc.2.1 (ld x1 (k0_off1 i k) (k0_off1_inb i k)) (ld x2 (k0_off1 i k) (k0_off1_inb i k)),
         k0_pay12 q1 acc.2.2.1 (ld x1 (k0_off2 i k) (k0_off2_inb i k)),
         k0_pay13 q1 acc.2.2.1 acc.2.2.2 (ld x1 (k0_off2 i k) (k0_off2_inb i k)) (ld x2 (k0_off2 i k) (k0_off2_inb i k))) := by
  unfold tripR_k0_t1 trip_k0_t1
  dsimp only
  sl_unfold_words
  simp only [View.readAt_eq_ld, h4.read_unread, h5.read_unread]

theorem hz : (![0, 0] : Fin 2 → Nat) = fun _ => 0 := funext fun a => by fin_cases a <;> rfl

/-- The queries of the block's first head. -/
abbrev q0 (x0 : Vec F S1024x512 .bf16) : Vec F S1024x256 .bf16 :=
  View.ld x0 (Rect.unit (s := S1024x512) ![0, 0] S1024x256.size inb_S1024x512_S1024x256_0_0)

/-- The queries of the block's second head. -/
abbrev q1 (x0 : Vec F S1024x512 .bf16) : Vec F S1024x256 .bf16 :=
  View.ld x0 (Rect.unit (s := S1024x512) ![0, 256] S1024x256.size inb_S1024x512_S1024x256_0_256)

/-- The values carried before trip `n`: each head's running maximum and running sum. -/
abbrev carried (c : Dev nD) (i : grid0.Coords)
    (a3 : Memref sig .tc .vmem S1024x512 .bf16) (h3 : a3.IsWhole) (a4 : Memref sig .tc .vmem S8192x512 .bf16) (h4 : a4.IsWhole)
    (a5 : Memref sig .tc .vmem S8192x512 .bf16) (h5 : a5.IsWhole) (a6 : Memref sig .tc .vmem S1024x256 .bf16) (h6 : a6.IsWhole)
    (x0 : Vec F S1024x512 .bf16) (x1 x2 : Vec F S8192x512 .bf16) (n : ℕ) :
    FVec F S1024x1 .bf16 × FVec F S1024x256 .f32 × FVec F S1024x1 .bf16 × FVec F S1024x256 .f32 :=
  st_k0_t1 Variants.none c none i a3 h3 a4 h4 a5 h5 a6 h6 (q0 x0) (q1 x0) (h4.unread x1) (h5.unread x2)
    (k0_pay4, k0_pay5, k0_pay6, k0_pay7) n

/-- What the body leaves in the output block: the diagonal tile's step from the values carried out of the loop, and
    the quotient. -/
theorem out (c : Dev nD) (i : grid0.Coords)
    (a3 : Memref sig .tc .vmem S1024x512 .bf16) (h3 : a3.IsWhole) (a4 : Memref sig .tc .vmem S8192x512 .bf16) (h4 : a4.IsWhole)
    (a5 : Memref sig .tc .vmem S8192x512 .bf16) (h5 : a5.IsWhole) (a6 : Memref sig .tc .vmem S1024x256 .bf16) (h6 : a6.IsWhole)
    (x0 : Vec F S1024x512 .bf16) (x1 x2 : Vec F S8192x512 .bf16)
    (S : FVec F S1024x1 .bf16 × FVec F S1024x256 .f32 × FVec F S1024x1 .bf16 × FVec F S1024x256 .f32)
    (hS : carried c i a3 h3 a4 h4 a5 h5 a6 h6 x0 x1 x2 (i 2).val = S) :
    out0_A_3 c i a3 h3 a4 h4 a5 h5 a6 h6 x0 x1 x2
      = k0_pay1 S.1 S.2.1 S.2.2.1 S.2.2.2 (k0_pay20 (q1 x0) (ld x1 (k0_off6 i) (k0_off6_inb i)))
          (k0_pay22 (q0 x0) S.1 (ld x1 (k0_off5 i) (k0_off5_inb i)))
          (k0_pay23 (q0 x0) S.1 (ld x1 (k0_off5 i) (k0_off5_inb i)))
          (ld x2 (k0_off5 i) (k0_off5_inb i)) (ld x2 (k0_off6 i) (k0_off6_inb i)) := by
  subst hS
  unfold out0_A_3
  rw [View.read_writes_eq_canon _ _ _ (cover0_A_3 c i a3 h3 a4 h4 a5 h5 a6 h6 x0 x1 x2)]
  unfold kernelRun0_A
  dsimp only
  sl_unfold_words
  rw [View.canon_unit_zero hz]
  simp only [View.readAt_eq_ld, h3.read_unread, h4.read_unread, h5.read_unread]
  have e1 := trips1 i
  have e2 := trips2 i
  simp only [k0_t1_loop, k0_t2_loop, Scf.Loop.trips] at e1 e2
  simp only [e1, e2, st_k0_t2_zero]

end Cert.KernelIdeal.Attn

end
-- ==== Proof.Online.lean ====
/-
  The online softmax over the extended reals.

  Nothing here names the programs. A row of scores is a function into the extended reals, each value `⊥` (a masked
  key) or a real number. A running maximum `m` and a running sum `∑ exp2 (s k − m) * v k` over the keys met so far are
  carried from one tile of keys to the next (`step`); over a real maximum, scores in base two are the reference's
  scores in base `e` (`exp2_eq_exp`), and the quotient of two such sums is the softmax's weighted sum (`quotient`).
-/
module

public import Idealize.ShloMosaic.PureOps.Ideal
public import Idealize.ShloMosaic.Lib.Pointwise
public import Idealize.ShloMosaic.Lib.WordCmp

@[expose] public section

noncomputable section

namespace Cert.Attn

open Idealize.ShloMosaic

/-- The words of the literal `-inf`. -/
theorem ninf_bf16 : Ideal.ofBits .bf16 0xFF80#16 = ⊥ := by simp [Ideal.ofBits, Ideal.ieee]

theorem ninf_f32 : Ideal.ofBits .f32 0xFF800000#32 = ⊥ := by simp [Ideal.ofBits, Ideal.ieee]

/-- The causal mask's choice, on row and column numbers. -/
theorem select_sge {α : Type} {a b : ℕ} (ha : a < 2 ^ 31) (hb : b < 2 ^ 31) (x y : α) :
    Scalar.select (IntOp.cmpi .sge (BitVec.ofNat 32 a) (BitVec.ofNat 32 b)) x y = if b ≤ a then x else y := by
  have h1 : (BitVec.ofNat 32 a).toNat = a := by simp [BitVec.toNat_ofNat]; omega
  have h2 : (BitVec.ofNat 32 b).toNat = b := by simp [BitVec.toNat_ofNat]; omega
  rw [WordCmp.cmpi_sge_of_lt (by omega) (by omega), h1, h2]
  unfold Scalar.select
  by_cases h : b ≤ a <;> simp [h]

/-- A nonnegative factor other than `⊤` goes into a sum. -/
theorem mul_sum {κ : Type} (A : Finset κ) {c : EReal} (h0 : 0 ≤ c) (ht : c ≠ ⊤) (f : κ → EReal) :
    c * ∑ k ∈ A, f k = ∑ k ∈ A, c * f k := by
  classical
  induction A using Finset.induction_on with
  | empty => simp
  | insert a A ha ih =>
    rw [Finset.sum_insert ha, Finset.sum_insert ha, EReal.left_distrib_of_nonneg_of_ne_top h0 ht, ih]

/-- A finite sum of real numbers, taken in the extended reals. -/
theorem coe_sum {κ : Type} (A : Finset κ) (f : κ → ℝ) : ((∑ k ∈ A, f k : ℝ) : EReal) = ∑ k ∈ A, (f k : EReal) := by
  classical
  induction A using Finset.induction_on with
  | empty => simp
  | insert a A ha ih => rw [Finset.sum_insert ha, Finset.sum_insert ha, EReal.coe_add, ih]

/-- `2ˣ` is never negative. -/
theorem exp2_nonneg (x : EReal) : 0 ≤ Ideal.exp2 x := by
  induction x using EReal.rec with
  | bot => simp
  | top => simp
  | coe r => rw [Ideal.exp2_coe]; exact_mod_cast Real.rpow_nonneg (by norm_num) r

/-- `2ˣ` is `⊤` only at `⊤`. -/
theorem exp2_ne_top {x : EReal} (h : x ≠ ⊤) : Ideal.exp2 x ≠ ⊤ := by
  induction x using EReal.rec with
  | bot => simp
  | top => exact absurd rfl h
  | coe r => rw [Ideal.exp2_coe]; exact EReal.coe_ne_top _

theorem sub_ne_top {x y : EReal} (h : x ≤ y) (hy : y ≠ ⊤) : x - y ≠ ⊤ := by
  induction y using EReal.rec with
  | bot => rw [le_bot_iff.1 h]; simp
  | top => exact absurd rfl hy
  | coe r =>
    induction x using EReal.rec with
    | bot => simp
    | top => exact absurd (top_le_iff.1 h) (EReal.coe_ne_top r)
    | coe q => rw [← EReal.coe_sub]; exact EReal.coe_ne_top _

/-- Moving one weight from the old maximum to the new one. -/
theorem exp2_shift {s m m' : EReal} (hs : s ≤ m) (hm : m ≤ m') (hm' : m' ≠ ⊤) :
    Ideal.exp2 (m - m') * Ideal.exp2 (s - m) = Ideal.exp2 (s - m') := by
  have hmt : m ≠ ⊤ := fun h => hm' (top_le_iff.1 (h ▸ hm))
  have hst : s ≠ ⊤ := fun h => hmt (top_le_iff.1 (h ▸ hs))
  induction s using EReal.rec with
  | bot => simp
  | top => exact absurd rfl hst
  | coe s =>
    induction m using EReal.rec with
    | bot => exact absurd (le_bot_iff.1 hs) (EReal.coe_ne_bot s)
    | top => exact absurd rfl hmt
    | coe m =>
      induction m' using EReal.rec with
      | bot => exact absurd (le_bot_iff.1 hm) (EReal.coe_ne_bot m)
      | top => exact absurd rfl hm'
      | coe m' =>
        rw [← EReal.coe_sub, ← EReal.coe_sub, ← EReal.coe_sub, Ideal.exp2_coe, Ideal.exp2_coe, Ideal.exp2_coe,
          ← EReal.coe_mul]
        congr 1
        change (2:ℝ) ^ (m - m') * (2:ℝ) ^ (s - m) = (2:ℝ) ^ (s - m')
        rw [← Real.rpow_add (by norm_num)]
        congr 1
        ring

/-- The weighted sum of the keys of `A`, the weights taken against the maximum of their scores. -/
def wsum {κ : Type} (A : Finset κ) (s v : κ → EReal) : EReal := ∑ k ∈ A, Ideal.exp2 (s k - A.sup s) * v k

theorem sup_ne_top {κ : Type} {A : Finset κ} {s : κ → EReal} (h : ∀ k, s k ≠ ⊤) : A.sup s ≠ ⊤ := by
  refine ne_of_lt ((Finset.sup_lt_iff (by exact bot_lt_top)).2 fun k _ => lt_top_iff_ne_top.2 (h k))

/-- ONE TILE: the maximum and the weighted sum of two disjoint sets of keys from those of the first and the scores of
    the second. -/
theorem step {κ : Type} [DecidableEq κ] {A B : Finset κ} (hd : Disjoint A B) {s v : κ → EReal} (h : ∀ k, s k ≠ ⊤) :
    Ideal.exp2 (A.sup s - (A.sup s ⊔ B.sup s)) * wsum A s v
        + ∑ k ∈ B, Ideal.exp2 (s k - (A.sup s ⊔ B.sup s)) * v k
      = wsum (A ∪ B) s v := by
  have hU : (A ∪ B).sup s = A.sup s ⊔ B.sup s := Finset.sup_union
  have hle : A.sup s ≤ A.sup s ⊔ B.sup s := le_sup_left
  have ht : A.sup s ⊔ B.sup s ≠ ⊤ := hU ▸ sup_ne_top h
  rw [wsum, wsum, hU, Finset.sum_union hd, mul_sum A (exp2_nonneg _) (exp2_ne_top (sub_ne_top hle ht))]
  congr 1
  refine Finset.sum_congr rfl fun k hk => ?_
  rw [← mul_assoc, exp2_shift (Finset.le_sup hk) hle ht]

/-- Keys whose score is `⊥` change neither the maximum nor the weighted sum. -/
theorem wsum_subset {κ : Type} {A B : Finset κ} (hs : A ⊆ B) {s v : κ → EReal} (h : ∀ k ∈ B, k ∉ A → s k = ⊥) :
    A.sup s = B.sup s ∧ wsum A s v = wsum B s v := by
  have hsup : A.sup s = B.sup s := by
    refine le_antisymm (Finset.sup_mono hs) (Finset.sup_le fun k hk => ?_)
    by_cases hA : k ∈ A
    · exact Finset.le_sup hA
    · rw [h k hk hA]; exact bot_le
  refine ⟨hsup, ?_⟩
  rw [wsum, wsum, hsup]
  refine Finset.sum_subset hs fun k hk hA => ?_
  rw [h k hk hA]; simp

/-- A real score in base two is the same score times `log 2` in base `e`. -/
theorem exp2_eq_exp (x : ℝ) : Ideal.exp2 ((x * (Real.log 2)⁻¹ : ℝ) : EReal) = Ideal.exp (x : EReal) := by
  rw [Ideal.exp2_coe, Ideal.exp_coe]
  congr 1
  change (2:ℝ) ^ (x * (Real.log 2)⁻¹) = Real.exp x
  rw [Real.rpow_def_of_pos (by norm_num)]
  congr 1
  have : Real.log 2 ≠ 0 := (Real.log_pos (by norm_num)).ne'
  field_simp

/-- The masked score: `⊥` where the key is not visible, else the real number. -/
def msk {κ : Type} (p : κ → Prop) [DecidablePred p] (x : κ → ℝ) (k : κ) : EReal := if p k then (x k : EReal) else ⊥

theorem msk_ne_top {κ : Type} (p : κ → Prop) [DecidablePred p] (x : κ → ℝ) (k : κ) : msk p x k ≠ ⊤ := by
  unfold msk; split
  · exact EReal.coe_ne_top _
  · exact bot_ne_top

/-- The maximum of masked scores is the score of some visible key, once there is one. -/
theorem sup_msk {κ : Type} [Fintype κ] (p : κ → Prop) [DecidablePred p] (x : κ → ℝ) (hp : ∃ k, p k) :
    ∃ k₀, p k₀ ∧ (∀ k, p k → x k ≤ x k₀) ∧ Finset.univ.sup (msk p x) = (x k₀ : EReal) := by
  obtain ⟨k₁, h₁⟩ := hp
  obtain ⟨k₀, hk₀, hmax⟩ := Finset.exists_max_image (Finset.univ.filter p) x ⟨k₁, by simpa using h₁⟩
  simp only [Finset.mem_filter, Finset.mem_univ, true_and] at hk₀ hmax
  refine ⟨k₀, hk₀, hmax, le_antisymm (Finset.sup_le fun k _ => ?_) ?_⟩
  · unfold msk; split
    · next h => exact_mod_cast hmax k h
    · exact bot_le
  · have := Finset.le_sup (f := msk p x) (Finset.mem_univ k₀)
    rwa [msk, if_pos hk₀] at this

/-- THE SOFTMAX: the quotient of the two weighted sums in base two — of the values and of ones — is the sum of the
    values by the softmax's weights in base `e`. -/
theorem quotient {κ : Type} [Fintype κ] (p : κ → Prop) [DecidablePred p] (hp : ∃ k, p k) (x : κ → ℝ) (v : κ → EReal) :
    Ideal.div (wsum Finset.univ (msk p fun k => x k * (Real.log 2)⁻¹) v)
        (wsum Finset.univ (msk p fun k => x k * (Real.log 2)⁻¹) fun _ => 1)
      = ∑ k, v k * Ideal.div (Ideal.exp (msk p x k - Finset.univ.sup (msk p x)))
          (∑ j, Ideal.exp (msk p x j - Finset.univ.sup (msk p x))) := by
  have hl : (0:ℝ) < (Real.log 2)⁻¹ := inv_pos.2 (Real.log_pos (by norm_num))
  obtain ⟨a, ha, hamax, hasup⟩ := sup_msk p x hp
  obtain ⟨b, hb, hbmax, hbsup⟩ := sup_msk p (fun k => x k * (Real.log 2)⁻¹) hp
  have hab : x b = x a := le_antisymm (hamax b hb) (le_of_mul_le_mul_right (hbmax a ha) hl)
  -- the weight of a key, a real number
  let w : κ → ℝ := fun k => if p k then Real.exp (x k - x a) else 0
  have hw0 : ∀ k, 0 ≤ w k := fun k => by
    simp only [w]; split
    · exact (Real.exp_pos _).le
    · exact le_rfl
  have hwe : ∀ k, Ideal.exp (msk p x k - Finset.univ.sup (msk p x)) = (w k : EReal) := fun k => by
    rw [hasup]; simp only [w, msk]; split
    · rw [← EReal.coe_sub, Ideal.exp_coe]
    · simp
  have hw2 : ∀ k, Ideal.exp2 (msk p (fun k => x k * (Real.log 2)⁻¹) k
      - Finset.univ.sup (msk p fun k => x k * (Real.log 2)⁻¹)) = (w k : EReal) := fun k => by
    rw [hbsup]; simp only [w, msk, hab]; split
    · rw [← EReal.coe_sub, ← sub_mul, exp2_eq_exp, Ideal.exp_coe]
    · simp
  have hsum : ∑ k, (w k : EReal) = ((∑ k, w k : ℝ) : EReal) := by
    rw [coe_sum]
  have hpos : 0 < ∑ k, w k := by
    refine Finset.sum_pos' (fun k _ => hw0 k) ⟨a, Finset.mem_univ _, ?_⟩
    simp only [w, if_pos ha]; exact Real.exp_pos _
  have hc0 : (0 : EReal) ≤ ((1 / ∑ k, w k : ℝ) : EReal) := by
    exact_mod_cast (one_div_pos.2 hpos).le
  simp only [wsum, hw2, hwe, mul_one, hsum]
  rw [Ideal.div_coe hpos.ne', mul_comm, mul_sum _ hc0 (EReal.coe_ne_top _)]
  refine Finset.sum_congr rfl fun k _ => ?_
  rw [Ideal.div_coe hpos.ne', ← mul_assoc, mul_comm (v k), mul_comm (w k : EReal)]

end Cert.Attn
-- ==== Proof.Block.lean ====
/-
  The attention kernel's vector operations read at one element, over the extended reals.
-/
module

public import proofs.«01_k».proof.Proof.Trip
public import proofs.«01_k».proof.Proof.Online
public import Idealize.ShloMosaic.Lib.Pointwise

@[expose] public section

set_option maxRecDepth 16384

noncomputable section

namespace Cert.KernelIdeal.Attn

open Idealize.ShloMosaic Idealize.ShloMosaic.TcCoe Idealize.ShloMosaic.Tactic Idealize.SL.Sem
open Cert.KernelIdeal Cert.KernelIdeal.Gen

/-- The scores of a tile. -/
theorem pay8_apply (q k : Vec Ideal S1024x256 .bf16) (r : Fin 1024) (j : Fin 1024) :
    k0_pay8 (F := Ideal) q k (ix2 r j) = ∑ d : Fin 256, q (ix2 r d) * k (ix2 j d) := by
  pointwise [k0_pay8, k0_pay2]

/-- The running maximum after a full tile. -/
theorem pay10_apply (q k : Vec Ideal S1024x256 .bf16) (m : Vec Ideal S1024x1 .bf16) (r : Fin 1024) :
    k0_pay10 (F := Ideal) q m k (ix2 r 0)
      = m (ix2 r 0) ⊔ Finset.univ.sup fun j : Fin 1024 => k0_pay8 (F := Ideal) q k (ix2 r j) := by
  pointwise [k0_pay10]
  rw [Attn.ninf_bf16]
  rfl

/-- The running sum after a full tile. -/
theorem pay11_apply (q k v : Vec Ideal S1024x256 .bf16) (m : Vec Ideal S1024x1 .bf16) (a : Vec Ideal S1024x256 .f32)
    (r : Fin 1024) (d : Fin 256) :
    k0_pay11 (F := Ideal) q m a k v (ix2 r d)
      = Ideal.exp2 (m (ix2 r 0) - k0_pay10 (F := Ideal) q m k (ix2 r 0)) * a (ix2 r d)
        + ∑ j : Fin 1024, Ideal.exp2 (k0_pay8 (F := Ideal) q k (ix2 r j) - k0_pay10 (F := Ideal) q m k (ix2 r 0)) * v (ix2 j d) := by
  pointwise [k0_pay11]
  rfl

/-- The scores of the diagonal tile, the later keys masked. -/
theorem pay21_apply (q k : Vec Ideal S1024x256 .bf16) (r : Fin 1024) (j : Fin 1024) :
    k0_pay21 (F := Ideal) q k (ix2 r j) = if j ≤ r then k0_pay8 (F := Ideal) q k (ix2 r j) else ⊥ := by
  pointwise [k0_pay21, k0_pay8, k0_pay2]
  have := r.isLt
  have := j.isLt
  rw [Attn.ninf_f32, Attn.select_sge (by omega) (by omega)]
  rfl

/-- The maximum after the diagonal tile. -/
theorem pay22_apply (q k : Vec Ideal S1024x256 .bf16) (m : Vec Ideal S1024x1 .bf16) (r : Fin 1024) :
    k0_pay22 (F := Ideal) q m k (ix2 r 0)
      = m (ix2 r 0) ⊔ Finset.univ.sup fun j : Fin 1024 => k0_pay21 (F := Ideal) q k (ix2 r j) := by
  pointwise [k0_pay22]
  rw [Attn.ninf_bf16]
  rfl

theorem pay23_apply (q k : Vec Ideal S1024x256 .bf16) (m : Vec Ideal S1024x1 .bf16) (r j : Fin 1024) :
    k0_pay23 (F := Ideal) q m k (ix2 r j) = k0_pay21 (F := Ideal) q k (ix2 r j) - k0_pay22 (F := Ideal) q m k (ix2 r 0) := by
  pointwise [k0_pay23]

end Cert.KernelIdeal.Attn

end
-- ==== Proof.Last.lean ====
/-
  The attention kernel's last operations read at one element, over the extended reals: the diagonal tile's sum, the
  quotient, the two heads side by side.
-/
module

public import proofs.«01_k».proof.Proof.Trip
public import proofs.«01_k».proof.Proof.Online
public import Idealize.ShloMosaic.Lib.Pointwise

@[expose] public section

set_option maxRecDepth 16384

noncomputable section

namespace Cert.KernelIdeal.Attn

open Idealize.ShloMosaic Idealize.ShloMosaic.TcCoe Idealize.ShloMosaic.Tactic Idealize.SL.Sem
open Cert.KernelIdeal Cert.KernelIdeal.Gen

/-- The sum after the last tile, from the carried maximum `m` and sum `a`, the new maximum `n`, the exponents `e` and
    the tile's values `v`. -/
def lastSum (m : FVec Ideal S1024x1 .bf16) (a : FVec Ideal S1024x256 .f32) (n : FVec Ideal S1024x1 .bf16)
    (e : FVec Ideal S1024x1024 .bf16) (v : Vec Ideal S1024x256 .bf16) : FVec Ideal S1024x256 .f32 :=
  addf (mulf (broadcastTo S1024x256 (exp2 (extf .f32 (subf m n) bitsLt_bf16_f32)) broadcasts_S1024x1_S1024x256) a)
    (matmul (φ₂ := .bf16) dot_S1024x1024_S1024x256_S1024x256_1_0_0_1_n_n none (exp2 e)
      (shapeCast S1024x256 v shapeCasts_S1024x256_S1024x256) (constant S1024x256 .f32 0x00000000#32))

theorem lastSum_apply (m : FVec Ideal S1024x1 .bf16) (a : FVec Ideal S1024x256 .f32) (n : FVec Ideal S1024x1 .bf16)
    (e : FVec Ideal S1024x1024 .bf16) (v : Vec Ideal S1024x256 .bf16) (r : Fin 1024) (d : Fin 256) :
    lastSum m a n e v (ix2 r d)
      = Ideal.exp2 (m (ix2 r 0) - n (ix2 r 0)) * a (ix2 r d) + ∑ j : Fin 1024, Ideal.exp2 (e (ix2 r j)) * v (ix2 j d) := by
  pointwise [lastSum]
  rfl

/-- One head's result: the first half of the sum's lanes over the second half. -/
def headOut (s : FVec Ideal S1024x256 .f32) : FVec Ideal S1024x128 .bf16 :=
  truncf .bf16 (divf (extractStridedSlice S1024x128 ![0, 0] s slices_S1024x256_o0_0_S1024x128)
    (extractStridedSlice S1024x128 ![0, 128] s slices_S1024x256_o0_128_S1024x128)) bitsLt_bf16_f32

theorem headOut_apply (s : FVec Ideal S1024x256 .f32) (r : Fin 1024) (d : Fin 128) :
    headOut s (ix2 r d) = Ideal.div (s (ix2 r ⟨d.val, by omega⟩)) (s (ix2 r ⟨128 + d.val, by omega⟩)) := by
  pointwise [headOut]

theorem pay1_eq (m0 : FVec Ideal S1024x1 .bf16) (a0 : FVec Ideal S1024x256 .f32) (m1 : FVec Ideal S1024x1 .bf16)
    (a1 : FVec Ideal S1024x256 .f32) (q k : Vec Ideal S1024x256 .bf16) (n : FVec Ideal S1024x1 .bf16)
    (e : FVec Ideal S1024x1024 .bf16) (v w : Vec Ideal S1024x256 .bf16) :
    k0_pay1 (F := Ideal) m0 a0 m1 a1 (k0_pay20 q k) n e v w
      = concatenate S1024x256 1 [⟨S1024x128, headOut (lastSum m0 a0 n e v)⟩,
          ⟨S1024x128, headOut (lastSum m1 a1 (k0_pay22 q m1 k) (k0_pay23 q m1 k) w)⟩]
          concatenates_S1024x128_S1024x128_S1024x256_d1 := rfl

/-- The block the body stores, at row `r` and lane `128 h + d`. -/
theorem pay1_apply (m0 : FVec Ideal S1024x1 .bf16) (a0 : FVec Ideal S1024x256 .f32) (m1 : FVec Ideal S1024x1 .bf16)
    (a1 : FVec Ideal S1024x256 .f32) (q k : Vec Ideal S1024x256 .bf16) (n : FVec Ideal S1024x1 .bf16)
    (e : FVec Ideal S1024x1024 .bf16) (v w : Vec Ideal S1024x256 .bf16) (r : Fin 1024) (l : Fin 256) :
    k0_pay1 (F := Ideal) m0 a0 m1 a1 (k0_pay20 q k) n e v w (ix2 r l)
      = if h : l.val < 128 then headOut (lastSum m0 a0 n e v) (ix2 r ⟨l.val, h⟩)
        else headOut (lastSum m1 a1 (k0_pay22 q m1 k) (k0_pay23 q m1 k) w) (ix2 r ⟨l.val - 128, by omega⟩) := by
  rw [pay1_eq]
  pointwise

end Cert.KernelIdeal.Attn

end
-- ==== Proof.Loop.lean ====
/-
  The attention kernel's body, one row of queries and one head at a time: the carried maximum and sum before trip `n`
  are those of the first `1024 n` keys, and what the body stores is the quotient of two weighted sums over all the
  keys, the later ones masked.
-/
module

public import proofs.«01_k».proof.Proof.Block
public import proofs.«01_k».proof.Proof.Last

@[expose] public section

set_option maxRecDepth 16384

noncomputable section

namespace Cert.KernelIdeal.Attn

open Idealize.ShloMosaic Idealize.ShloMosaic.TcCoe Idealize.ShloMosaic.Tactic Idealize.SL.Sem
open Cert.KernelIdeal Cert.KernelIdeal.Gen
open Cert.Attn (wsum)

/-- The first `1024 n` keys. -/
def first (n : ℕ) : Finset (Fin 8192) := Finset.univ.filter fun k => k.val < 1024 * n

/-- Key `j` of tile `n`. -/
def key (n : ℕ) (hn : n < 8) (j : Fin 1024) : Fin 8192 := ⟨1024 * n + j.val, by have := j.isLt; omega⟩

theorem key_inj (n : ℕ) (hn : n < 8) : Function.Injective (key n hn) := fun a b h => by
  have := congrArg Fin.val h
  simp only [key] at this
  exact Fin.ext (by omega)

/-- The keys of tile `n`. -/
def tile (n : ℕ) (hn : n < 8) : Finset (Fin 8192) := Finset.univ.map ⟨key n hn, key_inj n hn⟩

theorem first_succ (n : ℕ) (hn : n < 8) : first (n + 1) = first n ∪ tile n hn := by
  ext k
  simp only [first, tile, Finset.mem_union, Finset.mem_filter, Finset.mem_univ, true_and, Finset.mem_map,
    Function.Embedding.coeFn_mk]
  constructor
  · intro h
    by_cases hk : k.val < 1024 * n
    · exact .inl hk
    · exact .inr ⟨⟨k.val - 1024 * n, by omega⟩, Fin.ext (by simp only [key]; omega)⟩
  · rintro (h | ⟨j, rfl⟩)
    · omega
    · have := j.isLt; simp only [key]; omega

theorem first_disjoint (n : ℕ) (hn : n < 8) : Disjoint (first n) (tile n hn) := by
  rw [Finset.disjoint_left]
  intro k h h'
  simp only [first, tile, Finset.mem_filter, Finset.mem_univ, true_and, Finset.mem_map, Function.Embedding.coeFn_mk] at h h'
  obtain ⟨j, rfl⟩ := h'
  simp only [key] at h; omega

theorem first_zero : first 0 = ∅ := by
  ext k; simp [first]

/-- One tile's step on one row: the maximum. -/
theorem step_max {n : ℕ} (hn : n < 8) (s : Fin 8192 → EReal) :
    (first n).sup s ⊔ (Finset.univ.sup fun j => s (key n hn j)) = (first (n + 1)).sup s := by
  rw [first_succ n hn, Finset.sup_union, tile, Finset.sup_map]
  rfl

/-- One tile's step on one row and lane: the weighted sum. -/
theorem step_sum {n : ℕ} (hn : n < 8) (s w : Fin 8192 → EReal) (hs : ∀ k, s k ≠ ⊤) :
    Ideal.exp2 ((first n).sup s - (first (n + 1)).sup s) * wsum (first n) s w
        + ∑ j, Ideal.exp2 (s (key n hn j) - (first (n + 1)).sup s) * w (key n hn j)
      = wsum (first (n + 1)) s w := by
  have h := Attn.step (first_disjoint n hn) (s := s) (v := w) hs
  rw [← Finset.sup_union, ← first_succ n hn] at h
  rw [← h, tile, Finset.sum_map]
  rfl

/-- A full tile's operations, on one row. -/
theorem full_max {n : ℕ} (hn : n < 8) {s : Fin 8192 → EReal} {q k : Vec Ideal S1024x256 .bf16}
    {m : Vec Ideal S1024x1 .bf16} {r : Fin 1024} (hk : ∀ j, k0_pay8 (F := Ideal) q k (ix2 r j) = s (key n hn j))
    (hm : m (ix2 r 0) = (first n).sup s) :
    k0_pay10 (F := Ideal) q m k (ix2 r 0) = (first (n + 1)).sup s := by
  rw [pay10_apply, hm, ← step_max hn]
  simp only [hk]

theorem full_sum {n : ℕ} (hn : n < 8) {s w : Fin 8192 → EReal} (hs : ∀ k, s k ≠ ⊤) {q k v : Vec Ideal S1024x256 .bf16}
    {m : Vec Ideal S1024x1 .bf16} {a : Vec Ideal S1024x256 .f32} {r : Fin 1024} {d : Fin 256}
    (hk : ∀ j, k0_pay8 (F := Ideal) q k (ix2 r j) = s (key n hn j)) (hv : ∀ j, v (ix2 j d) = w (key n hn j))
    (hm : m (ix2 r 0) = (first n).sup s) (ha : a (ix2 r d) = wsum (first n) s w) :
    k0_pay11 (F := Ideal) q m a k v (ix2 r d) = wsum (first (n + 1)) s w := by
  rw [pay11_apply, full_max hn hk hm, hm, ha, ← step_sum hn s w hs]
  simp only [hk, hv]

/-- The diagonal tile's operations, on one row and lane. -/
theorem last_sum {n : ℕ} (hn : n < 8) {s w : Fin 8192 → EReal} (hs : ∀ k, s k ≠ ⊤) {q k v : Vec Ideal S1024x256 .bf16}
    {m : Vec Ideal S1024x1 .bf16} {a : Vec Ideal S1024x256 .f32} {r : Fin 1024} {d : Fin 256}
    (hk : ∀ j, k0_pay21 (F := Ideal) q k (ix2 r j) = s (key n hn j)) (hv : ∀ j, v (ix2 j d) = w (key n hn j))
    (hm : m (ix2 r 0) = (first n).sup s) (ha : a (ix2 r d) = wsum (first n) s w) :
    lastSum m a (k0_pay22 (F := Ideal) q m k) (k0_pay23 (F := Ideal) q m k) v (ix2 r d) = wsum (first (n + 1)) s w := by
  have h22 : k0_pay22 (F := Ideal) q m k (ix2 r 0) = (first (n + 1)).sup s := by
    rw [pay22_apply, hm, ← step_max hn]
    simp only [hk]
  rw [lastSum_apply, hm, h22, ha, ← step_sum hn s w hs]
  simp only [pay23_apply, h22, hk, hv]

/-! ## The loads -/

theorem ld_apply (x : Vec Ideal S8192x512 .bf16) {off : Fin 2 → ℕ} (h : ∀ a, off a + S1024x256.size a ≤ S8192x512.size a)
    {a b : ℕ} (ho : off = ![a, b]) (r : Fin 1024) (d : Fin 256) (ha : a + r.val < 8192) (hb : b + d.val < 512) :
    ld x off h (ix2 r d) = x (ix2 ⟨a + r.val, ha⟩ ⟨b + d.val, hb⟩) := by
  subst ho
  unfold ld View.ld
  refine congrArg x (funext fun c => ?_)
  fin_cases c <;> exact Fin.ext (by simp [Rect.unit])

/-- The lane `d` of head `h`'s 256 lanes. -/
def lane (h : Fin 2) (d : Fin 256) : Fin 512 := ⟨256 * h.val + d.val, by have := h.isLt; have := d.isLt; omega⟩

theorem q0_apply (x : Vec Ideal S1024x512 .bf16) (r : Fin 1024) (d : Fin 256) : q0 x (ix2 r d) = x (ix2 r (lane 0 d)) := by
  unfold q0 View.ld
  refine congrArg x (funext fun c => ?_)
  fin_cases c <;> exact Fin.ext (by simp [lane, Rect.unit])

theorem q1_apply (x : Vec Ideal S1024x512 .bf16) (r : Fin 1024) (d : Fin 256) : q1 x (ix2 r d) = x (ix2 r (lane 1 d)) := by
  unfold q1 View.ld
  refine congrArg x (funext fun c => ?_)
  fin_cases c <;> exact Fin.ext (by simp [lane, Rect.unit])

/-! ## The body -/

/-- The score of key `k` for query row `r` of head `h`, before the mask. -/
def score (x0 : Vec Ideal S1024x512 .bf16) (x1 : Vec Ideal S8192x512 .bf16) (h : Fin 2) (r : Fin 1024) (k : Fin 8192) : EReal :=
  ∑ d : Fin 256, x0 (ix2 r (lane h d)) * x1 (ix2 k (lane h d))

/-- The masked scores of query row `r` of query tile `t`. -/
def masked (x0 : Vec Ideal S1024x512 .bf16) (x1 : Vec Ideal S8192x512 .bf16) (t : ℕ) (h : Fin 2) (r : Fin 1024)
    (k : Fin 8192) : EReal :=
  if k.val ≤ 1024 * t + r.val then score x0 x1 h r k else ⊥

/-- The values' lane `d` of head `h`. -/
def vals (x2 : Vec Ideal S8192x512 .bf16) (h : Fin 2) (d : Fin 256) (k : Fin 8192) : EReal := x2 (ix2 k (lane h d))

theorem masked_ne_top {x0 : Vec Ideal S1024x512 .bf16} {x1 : Vec Ideal S8192x512 .bf16}
    (hf : ∀ h r k, score x0 x1 h r k ≠ ⊤) (t : ℕ) (h : Fin 2) (r : Fin 1024) (k : Fin 8192) : masked x0 x1 t h r k ≠ ⊤ := by
  unfold masked; split
  · exact hf h r k
  · exact bot_ne_top

theorem masked_full (x0 : Vec Ideal S1024x512 .bf16) (x1 : Vec Ideal S8192x512 .bf16) {t n : ℕ} (hn : n < 8) (ht : n < t)
    (h : Fin 2) (r j : Fin 1024) : masked x0 x1 t h r (key n hn j) = score x0 x1 h r (key n hn j) := by
  unfold masked
  rw [if_pos (by have := j.isLt; simp only [key]; omega)]

theorem masked_diag (x0 : Vec Ideal S1024x512 .bf16) (x1 : Vec Ideal S8192x512 .bf16) {n : ℕ} (hn : n < 8)
    (h : Fin 2) (r j : Fin 1024) :
    masked x0 x1 n h r (key n hn j) = if j ≤ r then score x0 x1 h r (key n hn j) else ⊥ := by
  unfold masked
  by_cases hj : j ≤ r
  · have := Fin.le_def.1 hj
    rw [if_pos (by simp only [key]; omega), if_pos hj]
  · have : ¬ j.val ≤ r.val := fun h => hj (Fin.le_def.2 h)
    rw [if_neg (by simp only [key]; omega), if_neg hj]

section Body

variable (c : Dev nD) (i : grid0.Coords)
    (a3 : Memref sig .tc .vmem S1024x512 .bf16) (h3 : a3.IsWhole) (a4 : Memref sig .tc .vmem S8192x512 .bf16) (h4 : a4.IsWhole)
    (a5 : Memref sig .tc .vmem S8192x512 .bf16) (h5 : a5.IsWhole) (a6 : Memref sig .tc .vmem S1024x256 .bf16) (h6 : a6.IsWhole)
    (x0 : Vec Ideal S1024x512 .bf16) (x1 x2 : Vec Ideal S8192x512 .bf16)

/-- What the loop carries before trip `n`. -/
def Inv (n : ℕ) (S : FVec Ideal S1024x1 .bf16 × FVec Ideal S1024x256 .f32 × FVec Ideal S1024x1 .bf16 × FVec Ideal S1024x256 .f32) :
    Prop :=
  ∀ r : Fin 1024,
    (S.1 (ix2 r 0) = (first n).sup (masked x0 x1 (i 2).val 0 r)
      ∧ ∀ d, S.2.1 (ix2 r d) = wsum (first n) (masked x0 x1 (i 2).val 0 r) (vals x2 0 d))
    ∧ (S.2.2.1 (ix2 r 0) = (first n).sup (masked x0 x1 (i 2).val 1 r)
      ∧ ∀ d, S.2.2.2 (ix2 r d) = wsum (first n) (masked x0 x1 (i 2).val 1 r) (vals x2 1 d))

theorem inv (hf : ∀ h r k, score x0 x1 h r k ≠ ⊤) : ∀ n ≤ (i 2).val,
    Inv i x0 x1 x2 n (carried (F := Ideal) c i a3 h3 a4 h4 a5 h5 a6 h6 x0 x1 x2 n)
  | 0, _ => fun r => by
    have e4 : k0_pay4 (F := Ideal) (ix2 r 0) = ⊥ := by pointwise [k0_pay4]; exact Attn.ninf_bf16
    have e5 : ∀ d : Fin 256, k0_pay5 (F := Ideal) (ix2 r d) = 0 := fun d => by pointwise [k0_pay5]
    simp only [carried, st_k0_t1_zero, first_zero, Finset.sup_empty, wsum, Finset.sum_empty]
    exact ⟨⟨e4, e5⟩, ⟨e4, e5⟩⟩
  | n + 1, hn => fun r => by
    have hi : (i 2).val < 8 := (i 2).isLt
    have hn8 : n < 8 := by omega
    obtain ⟨⟨hm0, ha0⟩, ⟨hm1, ha1⟩⟩ := inv hf n (by omega) r
    have e := st_k0_t1_succ (F := Ideal) Variants.none c none i a3 h3 a4 h4 a5 h5 a6 h6 (q0 x0) (q1 x0) (h4.unread x1)
      (h5.unread x2) (k0_pay4, k0_pay5, k0_pay6, k0_pay7) ⟨n, by rw [trips1]; omega⟩
    rw [trip] at e
    have hk0 : ∀ j, k0_pay8 (F := Ideal) (q0 x0) (ld x1 (k0_off1 i ⟨n, by rw [trips1]; omega⟩) (k0_off1_inb i _)) (ix2 r j)
        = masked x0 x1 (i 2).val 0 r (key n hn8 j) := fun j => by
      rw [pay8_apply, masked_full x0 x1 hn8 (by omega), score]
      refine Finset.sum_congr rfl fun d _ => ?_
      rw [q0_apply, ld_apply x1 _ (k0_off1_eq i _) j d (by have := j.isLt; dsimp only; omega) (by have := d.isLt; omega)]
      rfl
    have hk1 : ∀ j, k0_pay8 (F := Ideal) (q1 x0) (ld x1 (k0_off2 i ⟨n, by rw [trips1]; omega⟩) (k0_off2_inb i _)) (ix2 r j)
        = masked x0 x1 (i 2).val 1 r (key n hn8 j) := fun j => by
      rw [pay8_apply, masked_full x0 x1 hn8 (by omega), score]
      refine Finset.sum_congr rfl fun d _ => ?_
      rw [q1_apply, ld_apply x1 _ (k0_off2_eq i _) j d (by have := j.isLt; dsimp only; omega) (by have := d.isLt; omega)]
      rfl
    have hv0 : ∀ d j, ld x2 (k0_off1 i ⟨n, by rw [trips1]; omega⟩) (k0_off1_inb i _) (ix2 j d) = vals x2 0 d (key n hn8 j) :=
      fun d j => by
        rw [ld_apply x2 _ (k0_off1_eq i _) j d (by have := j.isLt; dsimp only; omega) (by have := d.isLt; omega)]
        rfl
    have hv1 : ∀ d j, ld x2 (k0_off2 i ⟨n, by rw [trips1]; omega⟩) (k0_off2_inb i _) (ix2 j d) = vals x2 1 d (key n hn8 j) :=
      fun d j => by
        rw [ld_apply x2 _ (k0_off2_eq i _) j d (by have := j.isLt; dsimp only; omega) (by have := d.isLt; omega)]
        rfl
    have hs := masked_ne_top hf (i 2).val
    rw [carried, e]
    exact ⟨⟨full_max hn8 hk0 hm0, fun d => full_sum hn8 (hs 0 r) hk0 (hv0 d) hm0 (ha0 d)⟩,
      ⟨full_max hn8 hk1 hm1, fun d => full_sum hn8 (hs 1 r) hk1 (hv1 d) hm1 (ha1 d)⟩⟩

/-- Beyond the diagonal tile every key is masked. -/
theorem wsum_all (t : ℕ) (h : Fin 2) (r : Fin 1024) (w : Fin 8192 → EReal) :
    wsum (first (t + 1)) (masked x0 x1 t h r) w = wsum Finset.univ (masked x0 x1 t h r) w := by
  refine (Attn.wsum_subset (Finset.subset_univ _) fun k _ hk => ?_).2
  simp only [first, Finset.mem_filter, Finset.mem_univ, true_and] at hk
  have := r.isLt
  rw [masked, if_neg (by omega)]

/-- THE BODY: row `r` and lane `d` of head `h` in the block it stores. -/
theorem body (hf : ∀ h r k, score x0 x1 h r k ≠ ⊤) (r : Fin 1024) (h : Fin 2) (d : Fin 128) :
    out0_A_3 (F := Ideal) c i a3 h3 a4 h4 a5 h5 a6 h6 x0 x1 x2
        (ix2 r ⟨128 * h.val + d.val, by have := h.isLt; have := d.isLt; omega⟩)
      = Ideal.div (wsum Finset.univ (masked x0 x1 (i 2).val h r) (vals x2 h ⟨d.val, by omega⟩))
          (wsum Finset.univ (masked x0 x1 (i 2).val h r) (vals x2 h ⟨128 + d.val, by omega⟩)) := by
  have hn8 : (i 2).val < 8 := (i 2).isLt
  have hs := masked_ne_top hf (i 2).val
  rw [out (F := Ideal) c i a3 h3 a4 h4 a5 h5 a6 h6 x0 x1 x2 _ rfl, pay1_apply]
  obtain ⟨⟨hm0, ha0⟩, ⟨hm1, ha1⟩⟩ := inv c i a3 h3 a4 h4 a5 h5 a6 h6 x0 x1 x2 hf (i 2).val le_rfl r
  have hk0 : ∀ j, k0_pay21 (F := Ideal) (q0 x0) (ld x1 (k0_off5 i) (k0_off5_inb i)) (ix2 r j)
      = masked x0 x1 (i 2).val 0 r (key (i 2).val hn8 j) := fun j => by
    rw [pay21_apply, pay8_apply, masked_diag x0 x1 hn8, score]
    congr 1
    refine Finset.sum_congr rfl fun d _ => ?_
    rw [q0_apply, ld_apply x1 _ (k0_off5_eq i) j d (by have := j.isLt; omega) (by have := d.isLt; omega)]
    rfl
  have hk1 : ∀ j, k0_pay21 (F := Ideal) (q1 x0) (ld x1 (k0_off6 i) (k0_off6_inb i)) (ix2 r j)
      = masked x0 x1 (i 2).val 1 r (key (i 2).val hn8 j) := fun j => by
    rw [pay21_apply, pay8_apply, masked_diag x0 x1 hn8, score]
    congr 1
    refine Finset.sum_congr rfl fun d _ => ?_
    rw [q1_apply, ld_apply x1 _ (k0_off6_eq i) j d (by have := j.isLt; omega) (by have := d.isLt; omega)]
    rfl
  have hv0 : ∀ d j, ld x2 (k0_off5 i) (k0_off5_inb i) (ix2 j d) = vals x2 0 d (key (i 2).val hn8 j) := fun d j => by
    rw [ld_apply x2 _ (k0_off5_eq i) j d (by have := j.isLt; omega) (by have := d.isLt; omega)]
    rfl
  have hv1 : ∀ d j, ld x2 (k0_off6 i) (k0_off6_inb i) (ix2 j d) = vals x2 1 d (key (i 2).val hn8 j) := fun d j => by
    rw [ld_apply x2 _ (k0_off6_eq i) j d (by have := j.isLt; omega) (by have := d.isLt; omega)]
    rfl
  match h with
  | 0 =>
    rw [dif_pos (by have := d.isLt; simp), headOut_apply, last_sum hn8 (hs 0 r) hk0 (hv0 _) hm0 (ha0 _),
      last_sum hn8 (hs 0 r) hk0 (hv0 _) hm0 (ha0 _), wsum_all, wsum_all]
    congr 4 <;> simp
  | 1 =>
    rw [dif_neg (by simp), headOut_apply, last_sum hn8 (hs 1 r) hk1 (hv1 _) hm1 (ha1 _),
      last_sum hn8 (hs 1 r) hk1 (hv1 _) hm1 (ha1 _), wsum_all, wsum_all]
    congr 4 <;> simp

end Body

end Cert.KernelIdeal.Attn

end
-- ==== Proof.Pack.lean ====
/-
  The host packing: what the region finds in the three arrays its windows read, and their elements.
-/
module

public import proofs.«01_k».proof.Proof.Gen.KernelIdeal.Value
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Attn

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ) (c : Dev nD)

/-- The folded scale, `1 / (√192 · log 2)`. -/
abbrev fold : FVec Ideal S_ .f32 :=
  Host.divf (constant S_ .f32 0x3F800000#32) (mulf (Host.sqrt (constant S_ .f32 0x43400000#32)) (Host.log (constant S_ .f32 0x40000000#32)))

/-- The padding lanes. -/
abbrev pad : FVec Ideal S4x8192x4x64 .f32 := broadcastInDim S4x8192x4x64 ![] bcast_S_S4x8192x4x64 (constant S_ .f32 0x00000000#32)

/-- The packed queries. -/
def packQ (qn : FVec Ideal S4x8192x4x128 .f32) (qr : FVec Ideal S4x8192x4x64 .f32) : FVec Ideal S32768x1024 .bf16 :=
  shapeCast _ (truncf .bf16 (mulf (concatenate S4x8192x4x256 3 [⟨S4x8192x4x128, qn⟩, ⟨S4x8192x4x64, qr⟩, ⟨S4x8192x4x64, pad⟩] concatenates_S4x8192x4x128_S4x8192x4x64_S4x8192x4x64_S4x8192x4x256_d3)
    (broadcastInDim S4x8192x4x256 ![] bcast_S_S4x8192x4x256 fold)) bitsLt_bf16_f32) shapeCasts_S4x8192x4x256_S32768x1024

/-- The packed keys. -/
def packK (kn : FVec Ideal S4x8192x4x128 .f32) (kr : FVec Ideal S4x8192x64 .f32) : FVec Ideal S32768x1024 .bf16 :=
  shapeCast _ (truncf .bf16 (concatenate S4x8192x4x256 3 [⟨S4x8192x4x128, kn⟩, ⟨S4x8192x4x64, broadcastInDim S4x8192x4x64 ![0, 1, 2, 3] bcast_S4x8192x1x64_S4x8192x4x64_0_1_2_3 (broadcastInDim S4x8192x1x64 ![0, 1, 3] bcast_S4x8192x64_S4x8192x1x64_0_1_3 kr)⟩, ⟨S4x8192x4x64, pad⟩] concatenates_S4x8192x4x128_S4x8192x4x64_S4x8192x4x64_S4x8192x4x256_d3)
    bitsLt_bf16_f32) shapeCasts_S4x8192x4x256_S32768x1024

/-- The packed values. -/
def packV (v : FVec Ideal S4x8192x4x128 .f32) : FVec Ideal S32768x1024 .bf16 :=
  shapeCast _ (truncf .bf16 (concatenate S4x8192x4x256 3 [⟨S4x8192x4x128, v⟩, ⟨S4x8192x4x128, broadcastInDim S4x8192x4x128 ![] bcast_S_S4x8192x4x128 (constant S_ .f32 0x3F800000#32)⟩] concatenates_S4x8192x4x128_S4x8192x4x128_S4x8192x4x256_d3)
    bitsLt_bf16_f32) shapeCasts_S4x8192x4x256_S32768x1024

/-- The region finds the packed queries. -/
theorem q_eq : V m c main_v16 = packQ (m ((c : Thread nD τ).loc main_arg0)) (m ((c : Thread nD τ).loc main_arg1)) := by
  unfold V hostOps0
  after_results_simp <;> rfl

/-- The region finds the packed keys. -/
theorem k_eq : V m c main_v17 = packK (m ((c : Thread nD τ).loc main_arg2)) (m ((c : Thread nD τ).loc main_arg3)) := by
  unfold V hostOps0
  after_results_simp <;> rfl

/-- The region finds the packed values. -/
theorem v_eq : V m c main_v18 = packV (m ((c : Thread nD τ).loc main_arg4)) := by
  unfold V hostOps0
  after_results_simp <;> rfl

/-- A packed query lane: the plain part, the rotary part, the padding, each times the folded scale. -/
theorem packQ_apply (qn : FVec Ideal S4x8192x4x128 .f32) (qr : FVec Ideal S4x8192x4x64 .f32) (n : Fin 32768) (l : Fin 1024) :
    packQ qn qr (ix2 n l)
      = (if h : l.val % 256 < 128 then qn (ix4 ⟨n.val / 8192, by omega⟩ ⟨n.val % 8192, by omega⟩ ⟨l.val / 256, by omega⟩ ⟨l.val % 256, h⟩)
          else if h : l.val % 256 - 128 < 64 then
            qr (ix4 ⟨n.val / 8192, by omega⟩ ⟨n.val % 8192, by omega⟩ ⟨l.val / 256, by omega⟩ ⟨l.val % 256 - 128, h⟩)
          else 0)
        * Ideal.div 1 (Ideal.sqrt (Ideal.ofBits .f32 0x43400000#32) * Ideal.log (Ideal.ofBits .f32 0x40000000#32)) := by
  pointwise [packQ]

/-- A packed key lane: the plain part, the rotary part shared by the heads, the padding. -/
theorem packK_apply (kn : FVec Ideal S4x8192x4x128 .f32) (kr : FVec Ideal S4x8192x64 .f32) (n : Fin 32768) (l : Fin 1024) :
    packK kn kr (ix2 n l)
      = if h : l.val % 256 < 128 then kn (ix4 ⟨n.val / 8192, by omega⟩ ⟨n.val % 8192, by omega⟩ ⟨l.val / 256, by omega⟩ ⟨l.val % 256, h⟩)
        else if h : l.val % 256 - 128 < 64 then kr (ix3 ⟨n.val / 8192, by omega⟩ ⟨n.val % 8192, by omega⟩ ⟨l.val % 256 - 128, h⟩)
        else 0 := by
  pointwise [packK]

/-- A packed value lane: the value, then ones. -/
theorem packV_apply (v : FVec Ideal S4x8192x4x128 .f32) (n : Fin 32768) (l : Fin 1024) :
    packV v (ix2 n l)
      = if h : l.val % 256 < 128 then v (ix4 ⟨n.val / 8192, by omega⟩ ⟨n.val % 8192, by omega⟩ ⟨l.val / 256, by omega⟩ ⟨l.val % 256, h⟩)
        else 1 := by
  pointwise [packV]

end Cert.KernelIdeal.Attn

end
-- ==== Proof.Array.lean ====
/-
  The array the kernel leaves: row `n`, lane `l` is the quotient of two weighted sums over the keys of `n`'s batch.
-/
module

public import proofs.«01_k».proof.Proof.Loop
public import proofs.«01_k».proof.Proof.Pack
public import Idealize.ShloMosaic.Lib.Pipeline.ValueKit

@[expose] public section

set_option maxRecDepth 16384

noncomputable section

namespace Cert.KernelIdeal.Attn

open Idealize.ShloMosaic Idealize.ShloMosaic.TcCoe Idealize.ShloMosaic.Tactic Idealize.SL.Sem
open Cert.KernelIdeal Cert.KernelIdeal.Gen Cert.Attn

/-- The score of packed query row `n` against key `k` of its batch, for head `g`. -/
def fullScore (q k : FVec Ideal S32768x1024 .bf16) (n : Fin 32768) (g : Fin 4) (j : Fin 8192) : EReal :=
  ∑ d : Fin 256, q (ix2 n ⟨256 * g.val + d.val, by omega⟩)
    * k (ix2 ⟨8192 * (n.val / 8192) + j.val, by omega⟩ ⟨256 * g.val + d.val, by omega⟩)

/-- The same under the causal mask. -/
def fullMasked (q k : FVec Ideal S32768x1024 .bf16) (n : Fin 32768) (g : Fin 4) (j : Fin 8192) : EReal :=
  if j.val ≤ n.val % 8192 then fullScore q k n g j else ⊥

/-- Lane `d` of head `g` of the packed values of `n`'s batch. -/
def fullVals (v : FVec Ideal S32768x1024 .bf16) (n : Fin 32768) (g : Fin 4) (d : Fin 256) (j : Fin 8192) : EReal :=
  v (ix2 ⟨8192 * (n.val / 8192) + j.val, by omega⟩ ⟨256 * g.val + d.val, by omega⟩)

/-- One element of the attention over packed arrays. -/
def attnAt (q k v : FVec Ideal S32768x1024 .bf16) (n : Fin 32768) (g : Fin 4) (d : Fin 128) : EReal :=
  Ideal.div (wsum Finset.univ (fullMasked q k n g) (fullVals v n g ⟨d.val, by omega⟩))
    (wsum Finset.univ (fullMasked q k n g) (fullVals v n g ⟨128 + d.val, by omega⟩))

/-- The attention over packed arrays. -/
def attn (q k v : FVec Ideal S32768x1024 .bf16) : FVec Ideal S32768x512 .bf16 := fun y =>
  attnAt q k v (y 0) ⟨(y 1).val / 128, by have := (y 1).isLt; change _ < 512 at this; omega⟩ ⟨(y 1).val % 128, by omega⟩

theorem idx : ∀ t : Fin cfg0.N,
    win0_0.index t = ![8 * (grid0.coords t 0).val + (grid0.coords t 2).val, (grid0.coords t 1).val]
    ∧ win0_1.index t = ![(grid0.coords t 0).val, (grid0.coords t 1).val]
    ∧ win0_2.index t = ![(grid0.coords t 0).val, (grid0.coords t 1).val]
    ∧ win0_3.index t = ![8 * (grid0.coords t 0).val + (grid0.coords t 2).val, (grid0.coords t 1).val] :=
  (by decide +kernel : ∀ t : Fin grid0.N, _)

variable (m : (ℓ : Loc nD τ sig) → Buf (Elt Ideal) ℓ) (c : Dev nD)

theorem coords_lt (t : Fin cfg0.N) :
    (grid0.coords t 0).val < 4 ∧ (grid0.coords t 1).val < 2 ∧ (grid0.coords t 2).val < 8 :=
  ⟨(grid0.coords t 0).isLt, (grid0.coords t 1).isLt, (grid0.coords t 2).isLt⟩

/-- The query block at grid point `t`. -/
theorem blockQ (t : Fin cfg0.N) (r : Fin 1024) (l : Fin 512) (n : Fin 32768) (l' : Fin 1024)
    (hn : n.val = 1024 * (8 * (grid0.coords t 0).val + (grid0.coords t 2).val) + r.val)
    (hl : l'.val = 512 * (grid0.coords t 1).val + l.val) :
    (iblk m c 0 t : FVec Ideal S1024x512 .bf16) (ix2 r l) = (V m c main_v16 : FVec Ideal S32768x1024 .bf16) (ix2 n l') := by
  obtain ⟨e, -, -, -⟩ := idx t
  blk_ext [iblk, e]

/-- The key block at grid point `t`. -/
theorem blockK (t : Fin cfg0.N) (r : Fin 8192) (l : Fin 512) (n : Fin 32768) (l' : Fin 1024)
    (hn : n.val = 8192 * (grid0.coords t 0).val + r.val)
    (hl : l'.val = 512 * (grid0.coords t 1).val + l.val) :
    (iblk m c 1 t : FVec Ideal S8192x512 .bf16) (ix2 r l) = (V m c main_v17 : FVec Ideal S32768x1024 .bf16) (ix2 n l') := by
  obtain ⟨-, e, -, -⟩ := idx t
  blk_ext [iblk, e]

/-- The value block at grid point `t`. -/
theorem blockV (t : Fin cfg0.N) (r : Fin 8192) (l : Fin 512) (n : Fin 32768) (l' : Fin 1024)
    (hn : n.val = 8192 * (grid0.coords t 0).val + r.val)
    (hl : l'.val = 512 * (grid0.coords t 1).val + l.val) :
    (iblk m c 2 t : FVec Ideal S8192x512 .bf16) (ix2 r l) = (V m c main_v18 : FVec Ideal S32768x1024 .bf16) (ix2 n l') := by
  obtain ⟨-, -, e, -⟩ := idx t
  blk_ext [iblk, e]

/-- A block's score is the packed arrays'. -/
theorem score_eq (t : Fin cfg0.N) (h : Fin 2) (r : Fin 1024) (j : Fin 8192) (n : Fin 32768) (g : Fin 4)
    (hn : n.val = 1024 * (8 * (grid0.coords t 0).val + (grid0.coords t 2).val) + r.val)
    (hg : g.val = 2 * (grid0.coords t 1).val + h.val) :
    score (iblk m c 0 t) (iblk m c 1 t) h r j = fullScore (V m c main_v16) (V m c main_v17) n g j := by
  obtain ⟨h0, h1, h2⟩ := coords_lt t
  have := r.isLt
  refine Finset.sum_congr rfl fun d _ => congrArg₂ (· * ·) (blockQ m c t r (lane h d) n _ hn ?_) (blockK m c t j (lane h d) _ _ ?_ ?_)
  · simp only [lane]; omega
  · simp only; omega
  · simp only [lane]; omega

/-- What the body leaves at grid point `t`. -/
theorem point (hf : ∀ n g j, fullScore (V m c main_v16) (V m c main_v17) n g j ≠ ⊤) (t : Fin cfg0.N) (r : Fin 1024) (h : Fin 2)
    (d : Fin 128) (n : Fin 32768) (g : Fin 4)
    (hn : n.val = 1024 * (8 * (grid0.coords t 0).val + (grid0.coords t 2).val) + r.val)
    (hg : g.val = 2 * (grid0.coords t 1).val + h.val) :
    (outsAt0 m c t : FVec Ideal S1024x256 .bf16) (ix2 r ⟨128 * h.val + d.val, by omega⟩)
      = attnAt (V m c main_v16) (V m c main_v17) (V m c main_v18) n g d := by
  obtain ⟨h0, h1, h2⟩ := coords_lt t
  have hr := r.isLt
  have hsc : ∀ h r j, score (iblk m c 0 t) (iblk m c 1 t) h r j ≠ ⊤ := fun h' r' j => by
    have := h'.isLt
    have := r'.isLt
    rw [score_eq m c t h' r' j ⟨1024 * (8 * (grid0.coords t 0).val + (grid0.coords t 2).val) + r'.val, by omega⟩
      ⟨2 * (grid0.coords t 1).val + h'.val, by omega⟩ rfl rfl]
    exact hf _ _ _
  refine (body c (grid0.coords t) (ms0_0 t) (hs0_0 t) (ms0_1 t) (hs0_1 t) (ms0_2 t) (hs0_2 t) (ms0_3 t) (hs0_3 t)
    (iblk m c 0 t) (iblk m c 1 t) (iblk m c 2 t) hsc r h d).trans ?_
  have hm : masked (iblk m c 0 t) (iblk m c 1 t) (grid0.coords t 2).val h r
      = fullMasked (V m c main_v16) (V m c main_v17) n g := by
    funext j
    refine if_congr ?_ (score_eq m c t h r j n g hn hg) rfl
    rw [show n.val % 8192 = 1024 * (grid0.coords t 2).val + r.val by omega]
  have hv : ∀ d, vals (iblk m c 2 t) h d = fullVals (V m c main_v18) n g d := fun d => by
    funext j
    refine blockV m c t j (lane h d) _ _ ?_ ?_
    · simp only; omega
    · simp only [lane]; omega
  rw [hm, hv, hv]
  rfl

/-- THE ARRAY after the run. -/
theorem final (hf : ∀ n g j, fullScore (V m c main_v16) (V m c main_v17) n g j ≠ ⊤) :
    (dats m 0 c).arrAt 3 cfg0.N = attn (V m c main_v16) (V m c main_v17) (V m c main_v18) := by
  refine (dats m 0 c).arrAt_eq_of_covers 3 _ (by decide +kernel) fun t _ y => ?_
  blk_simp
  rw [after0_3]
  obtain ⟨-, -, -, e⟩ := idx t
  obtain ⟨h0, h1, h2⟩ := coords_lt t
  have hy0 : (y 0 : ℕ) < 1024 := (y 0).isLt
  have hy1 : (y 1 : ℕ) < 256 := (y 1).isLt
  have e0 : ((win0_3.blk t).view.emb y 0 : ℕ) = 1024 * (8 * (grid0.coords t 0).val + (grid0.coords t 2).val) + (y 0 : ℕ) := by
    blk_simp [e]
    simp
    omega
  have e1 : ((win0_3.blk t).view.emb y 1 : ℕ) = 256 * (grid0.coords t 1).val + (y 1 : ℕ) := by
    blk_simp [e]
    simp
    omega
  have hy : (y : S1024x256.Idx) = ix2 (⟨(y 0 : ℕ), hy0⟩ : Fin 1024)
      (⟨128 * (⟨(y 1 : ℕ) / 128, by omega⟩ : Fin 2).val + (⟨(y 1 : ℕ) % 128, by omega⟩ : Fin 128).val, by simp only; omega⟩ : Fin 256) := by
    funext a
    refine Fin.ext ?_
    fin_cases a
    · rfl
    · exact (Nat.div_add_mod _ 128).symm
  refine (congrArg (outsAt0 m c t : FVec Ideal S1024x256 .bf16) hy).trans ?_
  refine (point m c hf t ⟨(y 0 : ℕ), hy0⟩ ⟨(y 1 : ℕ) / 128, by omega⟩ ⟨(y 1 : ℕ) % 128, by omega⟩
    ⟨1024 * (8 * (grid0.coords t 0).val + (grid0.coords t 2).val) + (y 0 : ℕ), by omega⟩
    ⟨2 * (grid0.coords t 1).val + (y 1 : ℕ) / 128, by omega⟩ rfl rfl).trans ?_
  unfold attn
  congr 1
  · exact Fin.ext e0.symm
  · exact Fin.ext (by simp only; rw [e1]; omega)
  · exact Fin.ext (by simp only; rw [e1]; omega)

end Cert.KernelIdeal.Attn

end
-- ==== Proof.Ref.lean ====
/-
  The reference's result read at one element: the softmax of the masked scores of one query row, summed against the
  values.
-/
module

public import proofs.«01_k».proof.Proof.Gen.ReferenceIdeal.Run
public import proofs.«01_k».proof.Proof.Online
public import Idealize.ShloMosaic.Lib.Pointwise
public import Idealize.ShloMosaic.Lib.Tactic.CleanTypes

@[expose] public section

set_option maxRecDepth 16384

noncomputable section

namespace Cert.ReferenceIdeal.Attn

open Idealize.ShloMosaic Idealize.ShloMosaic.TcCoe Idealize.ShloMosaic.Tactic Idealize.SL.Sem
open Cert.ReferenceIdeal Cert.ReferenceIdeal.Gen

/-- The scores' scale, `1 / √192`. -/
abbrev scale : FVec Ideal S_ .f32 := Host.divf (constant S_ .f32 0x3F800000#32) (Host.sqrt (constant S_ .f32 0x43400000#32))

/-- The masked scores. -/
def scores (qn : FVec Ideal S4x8192x4x128 .f32) (qr : FVec Ideal S4x8192x4x64 .f32) (kn : FVec Ideal S4x8192x4x128 .f32)
    (kr : FVec Ideal S4x8192x64 .f32) : FVec Ideal S4x4x8192x8192 .f32 :=
  select (broadcastInDim S4x4x8192x8192 ![2, 3] bcast_S8192x8192_S4x4x8192x8192_2_3 (cmpi .sge (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0)))))
    (mulf (addf (Host.dotGeneral dot_S4x8192x4x128_S4x8192x4x128_S4x4x8192x8192_3_3_1_1_02_02 none qn kn)
        (transpose S4x4x8192x8192 [0, 3, 2, 1] (Host.dotGeneral dot_S4x8192x64_S4x8192x4x64_S4x8192x8192x4_2_3_1_12_0_0 none kr qr) transposes_S4x8192x8192x4_S4x4x8192x8192_0_3_2_1))
      (broadcastInDim S4x4x8192x8192 ![] bcast_S_S4x4x8192x8192 scale))
    (broadcastInDim S4x4x8192x8192 ![] bcast_S_S4x4x8192x8192 (id (constant S_ .f32 0xFF800000#32)))

/-- Each row's maximum. -/
def rowMax (s : FVec Ideal S4x4x8192x8192 .f32) : FVec Ideal S4x4x8192 .f32 :=
  maximumf (broadcastInDim S4x4x8192 ![] bcast_S_S4x4x8192 (constant S_ .f32 0xFF800000#32))
    (Host.reduce FloatOps.maximumf s (constant S_ .f32 0xFF800000#32) reducesTo_S4x4x8192x8192_S4x4x8192_d3 h_S_)

/-- The exponentials, against each row's maximum. -/
def weights (s : FVec Ideal S4x4x8192x8192 .f32) : FVec Ideal S4x4x8192x8192 .f32 :=
  Host.exp (subf s (broadcastInDim S4x4x8192x8192 ![0, 1, 2, 3] bcast_S4x4x8192x1_S4x4x8192x8192_0_1_2_3
    (broadcastInDim S4x4x8192x1 ![0, 1, 2] bcast_S4x4x8192_S4x4x8192x1_0_1_2 (rowMax s))))

/-- The softmax and the sum against the values. -/
def weighted (w : FVec Ideal S4x4x8192x8192 .f32) (v : FVec Ideal S4x8192x4x128 .f32) : FVec Ideal S32768x512 .bf16 :=
  truncf .bf16 (shapeCast _ (transpose S4x8192x4x128 [0, 3, 1, 2] (Host.dotGeneral dot_S4x8192x4x128_S4x4x8192x8192_S4x4x128x8192_1_3_3_2_02_01 none v
    (Host.divf w (broadcastInDim S4x4x8192x8192 ![0, 1, 2, 3] bcast_S4x4x8192x1_S4x4x8192x8192_0_1_2_3
      (broadcastInDim S4x4x8192x1 ![0, 1, 2] bcast_S4x4x8192_S4x4x8192x1_0_1_2
        (Host.reduceAdd w (constant S_ .f32 0x00000000#32) reducesTo_S4x4x8192x8192_S4x4x8192_d3 h_S_))))) transposes_S4x4x128x8192_S4x8192x4x128_0_3_1_2) shapeCasts_S4x8192x4x128_S32768x512) bitsLt_bf16_f32

theorem result_eq (m : (ℓ : Loc nD τ sig) → Buf (Elt Ideal) ℓ) (c : Dev nD) :
    Value.res_main_v29 m c = weighted (weights (scores (m ((c.tc : Thread nD τ).loc main_arg0))
      (m ((c.tc : Thread nD τ).loc main_arg1)) (m ((c.tc : Thread nD τ).loc main_arg2)) (m ((c.tc : Thread nD τ).loc main_arg3))))
      (m ((c.tc : Thread nD τ).loc main_arg4)) := rfl

theorem scores_apply (qn : FVec Ideal S4x8192x4x128 .f32) (qr : FVec Ideal S4x8192x4x64 .f32)
    (kn : FVec Ideal S4x8192x4x128 .f32) (kr : FVec Ideal S4x8192x64 .f32) (b h : Fin 4) (s k : Fin 8192) :
    scores qn qr kn kr (ix4 b h s k)
      = if k.val ≤ s.val then
          (∑ d : Fin 128, qn (ix4 b s h d) * kn (ix4 b k h d) + ∑ d : Fin 64, kr (ix3 b k d) * qr (ix4 b s h d)) * scale ix0
        else ⊥ := by
  pointwise [scores]
  have := s.isLt
  have := k.isLt
  rw [Attn.select_sge (by omega) (by omega)]
  exact if_congr Iff.rfl rfl Attn.ninf_f32

theorem reduces : S4x4x8192x8192.Reduces [3] S4x4x8192 := by decide

theorem fold_max {ι : Type} [Fintype ι] (g : ι → EReal) :
    (Finset.univ : Finset ι).fold (max : EReal → EReal → EReal) ⊥ g = Finset.univ.sup g := rfl

theorem lift_eq (b h : Fin 4) (q k : Fin 8192) : reduces.lift (ix3 b h q) k = ix4 b h q k := by
  funext a
  fin_cases a <;> rfl

theorem ninf_scalar : constant (F := Ideal) S_ .f32 0xFF800000#32 (Shape.Idx.first h_S_) = (⊥ : EReal) := by
  pointwise; exact Attn.ninf_f32

theorem ninf_row (b h : Fin 4) (q : Fin 8192) :
    (broadcastInDim S4x4x8192 ![] bcast_S_S4x4x8192 (constant (F := Ideal) S_ .f32 0xFF800000#32)) (ix3 b h q) = (⊥ : EReal) := by
  pointwise; exact Attn.ninf_f32

theorem reduce_max (s : FVec Ideal S4x4x8192x8192 .f32) (b h : Fin 4) (q : Fin 8192) :
    Host.reduce (max : EReal → EReal → EReal) s (constant (F := Ideal) S_ .f32 0xFF800000#32) reducesTo_S4x4x8192x8192_S4x4x8192_d3 h_S_ (ix3 b h q)
      = Finset.univ.sup fun k : Fin 8192 => s (ix4 b h q k) := by
  refine (Host.reduce_eq_fold_single (max : EReal → EReal → EReal) s _ _ reduces _ _).trans ?_
  rw [ninf_scalar, fold_max]
  exact Finset.sup_congr rfl fun k _ => congrArg s (lift_eq b h q k)

theorem maximumf_apply {t : Shape} (a b : FVec Ideal t .f32) (i : t.Idx) : maximumf a b i = max (a i : EReal) (b i) := rfl

theorem max_eq : (FloatOps.maximumf (F := Ideal) (φ := .f32)) = (max : EReal → EReal → EReal) := rfl

theorem rowMax_apply (s : FVec Ideal S4x4x8192x8192 .f32) (b h : Fin 4) (q : Fin 8192) :
    rowMax s (ix3 b h q) = Finset.univ.sup fun k : Fin 8192 => s (ix4 b h q k) := by
  unfold rowMax
  rw [maximumf_apply, ninf_row, max_eq, reduce_max]
  exact max_eq_right bot_le

theorem weights_apply (s : FVec Ideal S4x4x8192x8192 .f32) (b h : Fin 4) (q k : Fin 8192) :
    weights s (ix4 b h q k) = Ideal.exp (s (ix4 b h q k) - Finset.univ.sup fun j : Fin 8192 => s (ix4 b h q j)) := by
  rw [← rowMax_apply]
  unfold weights
  generalize rowMax s = r
  pointwise

theorem weighted_apply (w : FVec Ideal S4x4x8192x8192 .f32) (v : FVec Ideal S4x8192x4x128 .f32) (n : Fin 32768) (l : Fin 512) :
    weighted w v (ix2 n l)
      = ∑ k : Fin 8192, v (ix4 ⟨n.val / 8192, by omega⟩ k ⟨l.val / 128, by omega⟩ ⟨l.val % 128, by omega⟩)
          * Ideal.div (w (ix4 ⟨n.val / 8192, by omega⟩ ⟨l.val / 128, by omega⟩ ⟨n.val % 8192, by omega⟩ k))
              (∑ j : Fin 8192, w (ix4 ⟨n.val / 8192, by omega⟩ ⟨l.val / 128, by omega⟩ ⟨n.val % 8192, by omega⟩ j)) := by
  pointwise [weighted]

end Cert.ReferenceIdeal.Attn

end
-- ==== Proof.Equation.lean ====
/-
  The equation over the real numbers: the kernel's quotient of base-2 sums over the packed arrays is the reference's
  softmax summed against the values.
-/
module

public import proofs.«01_k».proof.Proof.Array
public import proofs.«01_k».proof.Proof.Ref

@[expose] public section

set_option maxRecDepth 16384

noncomputable section

namespace Cert.Attn

open Idealize.ShloMosaic Idealize.ShloMosaic.TcCoe Idealize.ShloMosaic.Tactic Idealize.SL.Sem
open Cert.KernelIdeal (S4x8192x4x128 S4x8192x4x64 S4x8192x64 S32768x1024)

/-- The scores' scale as a real number. -/
def sc : ℝ := 1 / Real.sqrt 192

theorem sqrt192 : Ideal.sqrt (Ideal.ofBits .f32 0x43400000#32) = ((Real.sqrt 192 : ℝ) : EReal) := by
  rw [show Ideal.ofBits .f32 0x43400000#32 = ((192:ℝ):EReal) by
    simp [Ideal.ofBits, Ideal.ieee, -EReal.coe_mul]; norm_num]
  rw [Ideal.sqrt_coe, if_neg (by norm_num)]

theorem log_two : Ideal.log (Ideal.ofBits .f32 0x40000000#32) = ((Real.log 2 : ℝ) : EReal) := by
  rw [show Ideal.ofBits .f32 0x40000000#32 = ((2:ℝ):EReal) by
    simp [Ideal.ofBits, Ideal.ieee, -EReal.coe_mul]; norm_num]
  rw [Ideal.log_coe, if_neg (by norm_num)]

theorem sqrt192_pos : 0 < Real.sqrt 192 := Real.sqrt_pos.2 (by norm_num)

theorem log_two_pos : 0 < Real.log 2 := Real.log_pos (by norm_num)

theorem div_sqrt : Ideal.div 1 (Ideal.sqrt (Ideal.ofBits .f32 0x43400000#32)) = ((sc : ℝ) : EReal) := by
  rw [sqrt192, Ideal.div_coe sqrt192_pos.ne', one_mul, sc]

theorem div_fold : Ideal.div 1 (Ideal.sqrt (Ideal.ofBits .f32 0x43400000#32) * Ideal.log (Ideal.ofBits .f32 0x40000000#32))
    = ((sc * (Real.log 2)⁻¹ : ℝ) : EReal) := by
  rw [sqrt192, log_two, ← EReal.coe_mul, Ideal.div_coe (mul_pos sqrt192_pos log_two_pos).ne', one_mul, sc]
  congr 1
  field_simp

/-- A sum over 256 lanes, of which the last 64 are zero. -/
theorem sum_lanes (f : Fin 256 → EReal) (p : Fin 128 → ℝ) (r : Fin 64 → ℝ) (c : ℝ)
    (h1 : ∀ d : Fin 128, f ⟨d.val, by omega⟩ = ((p d * c : ℝ) : EReal))
    (h2 : ∀ d : Fin 64, f ⟨128 + d.val, by omega⟩ = ((r d * c : ℝ) : EReal))
    (h3 : ∀ d : Fin 64, f ⟨192 + d.val, by omega⟩ = 0) :
    ∑ d, f d = (((∑ d, p d + ∑ d, r d) * c : ℝ) : EReal) := by
  have e : ∑ d : Fin (128 + 128), f d = ∑ d : Fin 128, f (Fin.castAdd 128 d) + ∑ d : Fin (64 + 64), f (Fin.natAdd 128 d) :=
    Fin.sum_univ_add (a := 128) (b := 128) f
  refine e.trans ?_
  rw [Fin.sum_univ_add (fun d : Fin (64 + 64) => f (Fin.natAdd 128 d))]
  have e1 : ∑ d : Fin 128, f (Fin.castAdd 128 d) = ((∑ d, p d * c : ℝ) : EReal) :=
    (Finset.sum_congr rfl fun d _ => h1 d).trans (coe_sum _ _).symm
  have e2 : ∑ d : Fin 64, f (Fin.natAdd 128 (Fin.castAdd 64 d)) = ((∑ d, r d * c : ℝ) : EReal) :=
    (Finset.sum_congr rfl fun d _ => h2 d).trans (coe_sum _ _).symm
  have e3 : ∑ d : Fin 64, f (Fin.natAdd 128 (Fin.natAdd 64 d)) = 0 :=
    Finset.sum_eq_zero fun d _ => (congrArg f (Fin.ext (by simp; omega))).trans (h3 d)
  rw [e1, e2, e3, add_zero, ← EReal.coe_add, ← Finset.sum_mul, ← Finset.sum_mul, add_mul]

section Packed

open Cert.KernelIdeal.Attn

variable (qn kn v : FVec Ideal S4x8192x4x128 .f32) (qr : FVec Ideal S4x8192x4x64 .f32) (kr : FVec Ideal S4x8192x64 .f32)
  (n : Fin 32768) (b g : Fin 4) (s : Fin 8192) (l : Fin 1024)

theorem q_plain (hn : n.val = 8192 * b.val + s.val) (d : Fin 128) (hl : l.val = 256 * g.val + d.val) :
    packQ qn qr (ix2 n l) = qn (ix4 b s g d) * ((sc * (Real.log 2)⁻¹ : ℝ) : EReal) := by
  have := d.isLt
  have := s.isLt
  rw [packQ_apply, div_fold, dif_pos (by omega)]
  congr 1
  blk_ext

theorem q_rot (hn : n.val = 8192 * b.val + s.val) (d : Fin 64) (hl : l.val = 256 * g.val + 128 + d.val) :
    packQ qn qr (ix2 n l) = qr (ix4 b s g d) * ((sc * (Real.log 2)⁻¹ : ℝ) : EReal) := by
  have := d.isLt
  have := s.isLt
  rw [packQ_apply, div_fold, dif_neg (by omega), dif_pos (by omega)]
  congr 1
  blk_ext

theorem q_pad (d : Fin 64) (hl : l.val = 256 * g.val + 192 + d.val) : packQ qn qr (ix2 n l) = 0 := by
  have := d.isLt
  rw [packQ_apply, div_fold, dif_neg (by omega), dif_neg (by omega), zero_mul]

theorem k_plain (hn : n.val = 8192 * b.val + s.val) (d : Fin 128) (hl : l.val = 256 * g.val + d.val) :
    packK kn kr (ix2 n l) = kn (ix4 b s g d) := by
  have := d.isLt
  have := s.isLt
  rw [packK_apply, dif_pos (by omega)]
  blk_ext

theorem k_rot (hn : n.val = 8192 * b.val + s.val) (d : Fin 64) (hl : l.val = 256 * g.val + 128 + d.val) :
    packK kn kr (ix2 n l) = kr (ix3 b s d) := by
  have := d.isLt
  have := s.isLt
  rw [packK_apply, dif_neg (by omega), dif_pos (by omega)]
  blk_ext

theorem v_plain (hn : n.val = 8192 * b.val + s.val) (d : Fin 128) (hl : l.val = 256 * g.val + d.val) :
    packV v (ix2 n l) = v (ix4 b s g d) := by
  have := d.isLt
  have := s.isLt
  rw [packV_apply, dif_pos (by omega)]
  blk_ext

theorem v_one (d : Fin 128) (hl : l.val = 256 * g.val + 128 + d.val) : packV v (ix2 n l) = 1 := by
  have := d.isLt
  rw [packV_apply, dif_neg (by omega)]

end Packed

variable (A : S4x8192x4x128.Idx → ℝ) (Ar : S4x8192x4x64.Idx → ℝ) (B : S4x8192x4x128.Idx → ℝ) (Br : S4x8192x64.Idx → ℝ)

/-- The real score, scaled. -/
def real (b g : Fin 4) (s k : Fin 8192) : ℝ :=
  (∑ d : Fin 128, A (ix4 b s g d) * B (ix4 b k g d) + ∑ d : Fin 64, Ar (ix4 b s g d) * Br (ix3 b k d)) * sc

/-- An array of real numbers. -/
abbrev up {s : Shape} (f : s.Idx → ℝ) : FVec Ideal s .f32 := fun i => ((f i : ℝ) : EReal)

/-- The reference's masked score. -/
theorem ref_score (b g : Fin 4) (s k : Fin 8192) :
    ReferenceIdeal.Attn.scores (up A) (up Ar) (up B) (up Br) (ix4 b g s k)
      = msk (fun k : Fin 8192 => k.val ≤ s.val) (real A Ar B Br b g s) k := by
  rw [ReferenceIdeal.Attn.scores_apply]
  refine if_congr Iff.rfl ?_ rfl
  have e : ReferenceIdeal.Attn.scale ix0 = ((sc : ℝ) : EReal) := by
    pointwise
    exact div_sqrt
  rw [e]
  simp only [up, ← EReal.coe_mul, ← coe_sum, ← EReal.coe_add]
  congr 1
  unfold real
  congr 2
  exact Finset.sum_congr rfl fun d _ => mul_comm _ _

/-- The kernel's score over the packed arrays. -/
theorem ker_score (n : Fin 32768) (g : Fin 4) (j : Fin 8192) :
    KernelIdeal.Attn.fullScore (KernelIdeal.Attn.packQ (up A) (up Ar)) (KernelIdeal.Attn.packK (up B) (up Br)) n g j
      = ((real A Ar B Br ⟨n.val / 8192, by omega⟩ g ⟨n.val % 8192, by omega⟩ j * (Real.log 2)⁻¹ : ℝ) : EReal) := by
  unfold KernelIdeal.Attn.fullScore real
  have hn := n.isLt
  have hj := j.isLt
  rw [sum_lanes _ (fun d => A (ix4 ⟨n.val / 8192, by omega⟩ ⟨n.val % 8192, by omega⟩ g d) * B (ix4 ⟨n.val / 8192, by omega⟩ j g d))
    (fun d => Ar (ix4 ⟨n.val / 8192, by omega⟩ ⟨n.val % 8192, by omega⟩ g d) * Br (ix3 ⟨n.val / 8192, by omega⟩ j d))
    (sc * (Real.log 2)⁻¹) ?_ ?_ ?_, ← mul_assoc]
  · intro d
    rw [q_plain _ _ n ⟨n.val / 8192, by omega⟩ g ⟨n.val % 8192, by omega⟩ _ (by simp only; omega) d (by simp only),
      k_plain _ _ _ ⟨n.val / 8192, by omega⟩ g j _ (by simp only) d (by simp only)]
    simp only [up, ← EReal.coe_mul]
    congr 1
    ring
  · intro d
    rw [q_rot _ _ n ⟨n.val / 8192, by omega⟩ g ⟨n.val % 8192, by omega⟩ _ (by simp only; omega) d (by simp only; omega),
      k_rot _ _ _ ⟨n.val / 8192, by omega⟩ g j _ (by simp only) d (by simp only; omega)]
    simp only [up, ← EReal.coe_mul]
    congr 1
    ring
  · intro d
    rw [q_pad _ _ n g _ d (by simp only; omega), zero_mul]

/-- THE EQUATION: the kernel's array is the reference's. -/
theorem equation (v : FVec Ideal S4x8192x4x128 .f32) :
    KernelIdeal.Attn.attn (KernelIdeal.Attn.packQ (up A) (up Ar)) (KernelIdeal.Attn.packK (up B) (up Br)) (KernelIdeal.Attn.packV v)
      = ReferenceIdeal.Attn.weighted (ReferenceIdeal.Attn.weights (ReferenceIdeal.Attn.scores (up A) (up Ar) (up B) (up Br))) v := by
  funext y
  obtain ⟨n, l, rfl⟩ : ∃ (n : Fin 32768) (l : Fin 512), y = ix2 n l := ⟨y 0, y 1, by funext a; fin_cases a <;> rfl⟩
  have hn := n.isLt
  have hl := l.isLt
  rw [ReferenceIdeal.Attn.weighted_apply]
  simp only [ReferenceIdeal.Attn.weights_apply, ref_score]
  show KernelIdeal.Attn.attnAt _ _ _ n ⟨l.val / 128, by omega⟩ ⟨l.val % 128, by omega⟩ = _
  unfold KernelIdeal.Attn.attnAt
  generalize hg : (⟨l.val / 128, by omega⟩ : Fin 4) = g
  generalize hd : (⟨l.val % 128, by omega⟩ : Fin 128) = d
  have hm : KernelIdeal.Attn.fullMasked (KernelIdeal.Attn.packQ (up A) (up Ar)) (KernelIdeal.Attn.packK (up B) (up Br)) n g
      = msk (fun k : Fin 8192 => k.val ≤ n.val % 8192)
          (fun k => real A Ar B Br ⟨n.val / 8192, by omega⟩ g ⟨n.val % 8192, by omega⟩ k * (Real.log 2)⁻¹) := by
    funext k
    exact if_congr Iff.rfl (ker_score A Ar B Br n g k) rfl
  have hv : KernelIdeal.Attn.fullVals (KernelIdeal.Attn.packV v) n g ⟨d.val, by omega⟩
      = fun k => v (ix4 ⟨n.val / 8192, by omega⟩ k g d) := by
    funext k
    exact v_plain v _ _ g k _ rfl d rfl
  have h1 : KernelIdeal.Attn.fullVals (KernelIdeal.Attn.packV v) n g ⟨128 + d.val, by omega⟩ = fun _ => 1 := by
    funext k
    exact v_one v _ g _ d (by simp only; omega)
  rw [hm, hv, h1, quotient _ ⟨⟨0, by omega⟩, by simp⟩]

end Cert.Attn

end
-- ==== Proof.Finite.lean ====
/-
  The precondition read at one element: every entry of the queries and the keys is a real number.
-/
module

public import proofs.«01_k».proof.Defs
public import proofs.«01_k».proof.Proof.Equation
public import Idealize.ShloMosaic.Lib.ReduceAll

@[expose] public section

set_option maxRecDepth 16384

noncomputable section

namespace Cert.Attn

open Idealize.ShloMosaic Idealize.ShloMosaic.Tactic Idealize.SL.Sem

theorem pre_facts : Cert.Pre_finite.Facts where
  bcast_S_S4x8192x4x128 := by decide
  reducesTo_S4x8192x4x128_S_d0_1_2_3 := by decide
  h_S_ := by decide
  bcast_S_S4x8192x4x64 := by decide
  reducesTo_S4x8192x4x64_S_d0_1_2_3 := by decide
  bcast_S_S4x8192x64 := by decide
  reducesTo_S4x8192x64_S_d0_1_2 := by decide

theorem pinf_f32 : Ideal.ofBits .f32 0x7F800000#32 = (⊤ : EReal) := by
  simp [Ideal.ofBits, Ideal.ieee]

/-- An entry whose absolute value is below infinity is a real number. -/
theorem coe_of_lt {s : Shape} (x : FVec Ideal s .f32) (b : FVec Ideal s .f32) (hb : ∀ i, b i = (⊤ : EReal))
    (h : ∀ i, cmpf .olt (Host.absf x) b i = 1#1) : ∃ f : s.Idx → ℝ, x = up f := by
  refine ⟨fun i => EReal.toReal (x i), funext fun i => (EReal.coe_toReal ?_ ?_).symm⟩
  all_goals
    intro hx
    have hi : Ideal.cmp .olt (max (x i : EReal) (-(x i))) (b i) = 1#1 := h i
    rw [hb i, hx] at hi
    simp [Ideal.cmp] at hi

theorem and_one {a b : BitVec 1} (h : IntOp.andi a b = 1#1) : a = 1#1 ∧ b = 1#1 := by
  revert a b; decide

/-- The precondition gives real arrays. -/
theorem real_of_pre [Cert.Pre_finite.Facts] (a0 a2 : FVec Ideal Cert.Pre_finite.S4x8192x4x128 .f32) (a1 : FVec Ideal Cert.Pre_finite.S4x8192x4x64 .f32)
    (a3 : FVec Ideal Cert.Pre_finite.S4x8192x64 .f32) (a4 : FVec Ideal Cert.Pre_finite.S4x8192x4x128 .f32)
    (h : Cert.Pre_finite.fn (F := Ideal) a0 a1 a2 a3 a4 = fun _ => 1#1) :
    (∃ f, a0 = up f) ∧ (∃ f, a1 = up f) ∧ (∃ f, a2 = up f) ∧ ∃ f, a3 = up f := by
  have h' := congrFun h ix0
  obtain ⟨h012, h3⟩ := and_one h'
  obtain ⟨h01, h2⟩ := and_one h012
  obtain ⟨h0, h1⟩ := and_one h01
  exact ⟨coe_of_lt _ _ (fun _ => pinf_f32) (Host.reduce_andi_all _ _ _ _ _ h0),
    coe_of_lt _ _ (fun _ => pinf_f32) (Host.reduce_andi_all _ _ _ _ _ h1),
    coe_of_lt _ _ (fun _ => pinf_f32) (Host.reduce_andi_all _ _ _ _ _ h2),
    coe_of_lt _ _ (fun _ => pinf_f32) (Host.reduce_andi_all _ _ _ _ _ h3)⟩

end Cert.Attn

end
-- ==== Proof.lean ====
/-
  The attention call, the input norm, the three input projections and the gated merge: their frames, the idealized frames, and the equations
  of their result arrays with the plain mathematics, assembled from the modules beside this one.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Main
public import proofs.«01_k».proof.Proof.Gen.Main.Skeleton
public import proofs.«01_k».proof.Proof.Gen.Main.Launch
public import proofs.«01_k».proof.Proof.Gen.Main.Points
public import proofs.«01_k».proof.Proof.Gen.Main.Frame
public import proofs.«01_k».proof.Proof.Gen.MainIdeal
public import proofs.«01_k».proof.Proof.Gen.MainIdeal.Skeleton
public import proofs.«01_k».proof.Proof.Gen.MainIdeal.Launch
public import proofs.«01_k».proof.Proof.Gen.MainIdeal.Points
public import proofs.«01_k».proof.Proof.Gen.MainIdeal.Frame
public import proofs.«01_k».proof.Proof.Gen.MainIdeal.Value
public import proofs.«01_k».proof.Proof.Gen.MainReferenceIdeal
public import proofs.«01_k».proof.Proof.Gen.MainReferenceIdeal.Run
public import proofs.«01_k».proof.Proof.InMain
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateIdeal.Value
public import proofs.«01_k».proof.Proof.Gen.GateReferenceIdeal
public import proofs.«01_k».proof.Proof.Gen.GateReferenceIdeal.Run
public import proofs.«01_k».proof.Proof.InGate
public import proofs.«01_k».proof.Proof.Gen.Latent
public import proofs.«01_k».proof.Proof.Gen.Latent.Skeleton
public import proofs.«01_k».proof.Proof.Gen.Latent.Launch
public import proofs.«01_k».proof.Proof.Gen.Latent.Points
public import proofs.«01_k».proof.Proof.Gen.Latent.Frame
public import proofs.«01_k».proof.Proof.Gen.LatentIdeal
public import proofs.«01_k».proof.Proof.Gen.LatentIdeal.Skeleton
public import proofs.«01_k».proof.Proof.Gen.LatentIdeal.Launch
public import proofs.«01_k».proof.Proof.Gen.LatentIdeal.Points
public import proofs.«01_k».proof.Proof.Gen.LatentIdeal.Frame
public import proofs.«01_k».proof.Proof.Gen.LatentIdeal.Value
public import proofs.«01_k».proof.Proof.Gen.LatentReferenceIdeal
public import proofs.«01_k».proof.Proof.Gen.LatentReferenceIdeal.Run
public import proofs.«01_k».proof.Proof.InLatent
public import proofs.«01_k».proof.Proof.InMerge
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.InEntry
public import proofs.«01_k».proof.Proof.Gen.Entry
public import proofs.«01_k».proof.Proof.Gen.Entry.Skeleton
public import proofs.«01_k».proof.Proof.Gen.Entry.Launch
public import proofs.«01_k».proof.Proof.Gen.Entry.Points
public import proofs.«01_k».proof.Proof.Gen.Entry.Frame
public import proofs.«01_k».proof.Proof.Gen.EntryIdeal
public import proofs.«01_k».proof.Proof.Gen.EntryIdeal.Skeleton
public import proofs.«01_k».proof.Proof.Gen.EntryIdeal.Launch
public import proofs.«01_k».proof.Proof.Gen.EntryIdeal.Points
public import proofs.«01_k».proof.Proof.Gen.EntryIdeal.Frame
public import proofs.«01_k».proof.Proof.Gen.EntryIdeal.Value
public import proofs.«01_k».proof.Proof.Gen.EntryReferenceIdeal
public import proofs.«01_k».proof.Proof.Gen.EntryReferenceIdeal.Run
public import proofs.«01_k».proof.Proof.Finite
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.Tactic Idealize.SL.Sem

/-- The reference's frame, read off its run. -/
theorem frame_ri : Cert.quiescent_ReferenceIdeal (hReferenceIdeal := Cert.ReferenceIdeal.Gen.facts) := fun m ρ _ =>
  (θ_run _ _ _).mono (fun r h => ⟨fun c => ⟨(h c).2.1, (h c).2.2.1, (h c).2.2.2.1, (h c).2.2.2.2.1, (h c).2.2.2.2.2⟩,
    sem_eq_zero_of_no_sems (by decide) r.2⟩) (Cert.ReferenceIdeal.Value.run m ρ)

/-- The kernel's array is the reference's, on arguments that agree. -/
theorem result (m : (ℓ : Loc Cert.KernelIdeal.nD Cert.KernelIdeal.τ Cert.KernelIdeal.sig) → Buf (Elt Ideal) ℓ) (c : Dev Cert.KernelIdeal.nD)
    (m' : (ℓ : Loc Cert.ReferenceIdeal.nD Cert.ReferenceIdeal.τ Cert.ReferenceIdeal.sig) → Buf (Elt Ideal) ℓ)
    [Cert.Pre_finite.Facts]
    (hpre : Cert.Pre_finite.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) = fun _ => 1#1)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (Cert.KernelIdeal.Gen.dats m 0 c).arrAt 3 Cert.KernelIdeal.cfg0.N = Cert.ReferenceIdeal.Value.res_main_v29 m' c := by
  obtain ⟨h0, h1, h2, h3, h4⟩ := hagree
  obtain ⟨⟨A, hA⟩, ⟨Ar, hAr⟩, ⟨B, hB⟩, ⟨Br, hBr⟩⟩ := Cert.Attn.real_of_pre _ _ _ _ _ hpre
  have hq := (Cert.KernelIdeal.Attn.q_eq m c).trans (congrArg₂ Cert.KernelIdeal.Attn.packQ hA hAr)
  have hk := (Cert.KernelIdeal.Attn.k_eq m c).trans (congrArg₂ Cert.KernelIdeal.Attn.packK hB hBr)
  have hf : ∀ n g j, Cert.KernelIdeal.Attn.fullScore (Cert.KernelIdeal.Gen.V m c Cert.KernelIdeal.main_v16)
      (Cert.KernelIdeal.Gen.V m c Cert.KernelIdeal.main_v17) n g j ≠ ⊤ := fun n g j => by
    rw [hq, hk, Cert.Attn.ker_score]
    exact EReal.coe_ne_top _
  rw [Cert.KernelIdeal.Attn.final m c hf, hq, hk, Cert.KernelIdeal.Attn.v_eq, Cert.Attn.equation,
    Cert.ReferenceIdeal.Attn.result_eq, h0, h1, h2, h3, h4]
  exact congrArg₂ (fun s v => Cert.ReferenceIdeal.Attn.weighted (Cert.ReferenceIdeal.Attn.weights s) v)
    (by rw [← hA, ← hAr, ← hB, ← hBr]) rfl

/-- The idealized kernel's run meets the reference's. -/
theorem algebraic : Cert.algebraic_KernelIdeal_ReferenceIdeal_pre_finite (hKernelIdeal := Cert.KernelIdeal.Gen.facts)
    (hReferenceIdeal := Cert.ReferenceIdeal.Gen.facts) (hPre_finite := Cert.Attn.pre_facts) := by
  pair_intro
  · run_from Cert.KernelIdeal.Value.run_blocks m g
  · run_from Cert.ReferenceIdeal.Value.run m' g'
    have := Cert.Attn.pre_facts
    exact (result m c m' (hpre c) (hagree c)).symm

/-- The frame of the reference of the main columns. -/
theorem frame_main : Cert.quiescent_MainReferenceIdeal (hMainReferenceIdeal := Cert.MainReferenceIdeal.Gen.facts) := fun m ρ _ =>
  (θ_run _ _ _).mono (fun r h => ⟨fun c => ⟨(h c).2.1, (h c).2.2⟩, sem_eq_zero_of_no_sems (by decide) r.2⟩)
    (Cert.MainReferenceIdeal.Value.run m ρ)

/-- The kernel's main columns are the reference's. -/
theorem result_main (m : (ℓ : Loc Cert.MainIdeal.nD Cert.MainIdeal.τ Cert.MainIdeal.sig) → Buf (Elt Ideal) ℓ) (c : Dev Cert.MainIdeal.nD) :
    (Cert.MainIdeal.Gen.dats m 0 c).arrAt 2 Cert.MainIdeal.cfg0.N
      = Cert.MainReferenceIdeal.InMain.picked (m ((c.tc : Thread Cert.MainIdeal.nD Cert.MainIdeal.τ).loc Cert.MainIdeal.main_arg0))
        (m ((c.tc : Thread Cert.MainIdeal.nD Cert.MainIdeal.τ).loc Cert.MainIdeal.main_arg1)) := by
  rw [Cert.MainIdeal.InMain.final, Cert.MainIdeal.InMain.x_eq, Cert.MainIdeal.InMain.w_eq, Cert.InMain.equation]

/-- The idealized kernel's run meets the reference's on the main columns. -/
theorem algebraic_main : Cert.algebraic_MainIdeal_MainReferenceIdeal (hMainIdeal := Cert.MainIdeal.Gen.facts)
    (hMainReferenceIdeal := Cert.MainReferenceIdeal.Gen.facts) := by
  pair_intro
  · run_from Cert.MainIdeal.Value.run_blocks m g
  · run_from Cert.MainReferenceIdeal.Value.run m' g'
    exact (result_main m c).symm

/-- The frame of the reference of the gate columns. -/
theorem frame_gate : Cert.quiescent_GateReferenceIdeal (hGateReferenceIdeal := Cert.GateReferenceIdeal.Gen.facts) := fun m ρ _ =>
  (θ_run _ _ _).mono (fun r h => ⟨fun c => ⟨(h c).2.1, (h c).2.2⟩, sem_eq_zero_of_no_sems (by decide) r.2⟩)
    (Cert.GateReferenceIdeal.Value.run m ρ)

/-- The kernel's gate columns are the reference's. -/
theorem result_gate (m : (ℓ : Loc Cert.GateIdeal.nD Cert.GateIdeal.τ Cert.GateIdeal.sig) → Buf (Elt Ideal) ℓ) (c : Dev Cert.GateIdeal.nD) :
    (Cert.GateIdeal.Gen.dats m 0 c).arrAt 2 Cert.GateIdeal.cfg0.N
      = Cert.GateReferenceIdeal.InGate.picked (m ((c.tc : Thread Cert.GateIdeal.nD Cert.GateIdeal.τ).loc Cert.GateIdeal.main_arg0))
        (m ((c.tc : Thread Cert.GateIdeal.nD Cert.GateIdeal.τ).loc Cert.GateIdeal.main_arg1)) := by
  rw [Cert.GateIdeal.InGate.final, Cert.GateIdeal.InGate.x_eq, Cert.GateIdeal.InGate.w_eq, Cert.InGate.equation]

/-- The idealized kernel's run meets the reference's on the gate columns. -/
theorem algebraic_gate : Cert.algebraic_GateIdeal_GateReferenceIdeal (hGateIdeal := Cert.GateIdeal.Gen.facts)
    (hGateReferenceIdeal := Cert.GateReferenceIdeal.Gen.facts) := by
  pair_intro
  · run_from Cert.GateIdeal.Value.run_blocks m g
  · run_from Cert.GateReferenceIdeal.Value.run m' g'
    exact (result_gate m c).symm

/-- The frame of the reference of the latent columns. -/
theorem frame_latent : Cert.quiescent_LatentReferenceIdeal (hLatentReferenceIdeal := Cert.LatentReferenceIdeal.Gen.facts) := fun m ρ _ =>
  (θ_run _ _ _).mono (fun r h => ⟨fun c => ⟨(h c).2.2.1, (h c).2.2.2⟩, sem_eq_zero_of_no_sems (by decide) r.2⟩)
    (Cert.LatentReferenceIdeal.Value.run m ρ)

/-- The kernel's latent columns are the reference's. -/
theorem result_latent (m : (ℓ : Loc Cert.LatentIdeal.nD Cert.LatentIdeal.τ Cert.LatentIdeal.sig) → Buf (Elt Ideal) ℓ) (c : Dev Cert.LatentIdeal.nD) :
    (Cert.LatentIdeal.Gen.dats m 0 c).arrAt 2 Cert.LatentIdeal.cfg0.N
      = Cert.LatentReferenceIdeal.InLatent.picked (m ((c.tc : Thread Cert.LatentIdeal.nD Cert.LatentIdeal.τ).loc Cert.LatentIdeal.main_arg0))
        (m ((c.tc : Thread Cert.LatentIdeal.nD Cert.LatentIdeal.τ).loc Cert.LatentIdeal.main_arg1)) := by
  rw [Cert.LatentIdeal.InLatent.final, Cert.LatentIdeal.InLatent.x_eq, Cert.LatentIdeal.InLatent.w_eq, Cert.InLatent.equation]

/-- The kernel's transposed scalar gates are the reference's. -/
theorem result_gates (m : (ℓ : Loc Cert.LatentIdeal.nD Cert.LatentIdeal.τ Cert.LatentIdeal.sig) → Buf (Elt Ideal) ℓ) (c : Dev Cert.LatentIdeal.nD) :
    (Cert.LatentIdeal.Gen.dats m 0 c).arrAt 3 Cert.LatentIdeal.cfg0.N
      = Cert.LatentReferenceIdeal.InLatent.scalars (m ((c.tc : Thread Cert.LatentIdeal.nD Cert.LatentIdeal.τ).loc Cert.LatentIdeal.main_arg0))
        (m ((c.tc : Thread Cert.LatentIdeal.nD Cert.LatentIdeal.τ).loc Cert.LatentIdeal.main_arg1)) := by
  rw [Cert.LatentIdeal.InLatent.final_gates, Cert.LatentIdeal.InLatent.x_eq, Cert.LatentIdeal.InLatent.w_eq, Cert.InLatent.equation_gates]

/-- The idealized kernel's run meets the reference's on the latent columns. -/
theorem algebraic_latent : Cert.algebraic_LatentIdeal_LatentReferenceIdeal (hLatentIdeal := Cert.LatentIdeal.Gen.facts)
    (hLatentReferenceIdeal := Cert.LatentReferenceIdeal.Gen.facts) := by
  pair_intro
  · run_from Cert.LatentIdeal.Value.run_blocks m g
  · run_from Cert.LatentReferenceIdeal.Value.run m' g'
    · exact (result_latent m c).symm
    · exact (result_gates m c).symm

/-- The frame of the reference of the merge. -/
theorem frame_merge : Cert.quiescent_MergeReferenceIdeal (hMergeReferenceIdeal := Cert.MergeReferenceIdeal.Gen.facts) := fun m ρ _ =>
  (θ_run _ _ _).mono (fun r h => ⟨fun c => (h c).2, sem_eq_zero_of_no_sems (by decide) r.2⟩)
    (Cert.MergeReferenceIdeal.Value.run m ρ)

/-- The kernel's merged rows are the reference's. -/
theorem result_merge (m : (ℓ : Loc Cert.MergeIdeal.nD Cert.MergeIdeal.τ Cert.MergeIdeal.sig) → Buf (Elt Ideal) ℓ) (c : Dev Cert.MergeIdeal.nD) :
    (Cert.MergeIdeal.Gen.dats m 0 c).arrAt 13 Cert.MergeIdeal.cfg0.N
      = Cert.MergeReferenceIdeal.InMerge.norm (Cert.MergeReferenceIdeal.InMerge.resid
          (Cert.MergeReferenceIdeal.InMerge.merged (m ((c.tc : Thread Cert.MergeIdeal.nD Cert.MergeIdeal.τ).loc Cert.MergeIdeal.main_arg0)) (m ((c.tc : Thread Cert.MergeIdeal.nD Cert.MergeIdeal.τ).loc Cert.MergeIdeal.main_arg1))
            (m ((c.tc : Thread Cert.MergeIdeal.nD Cert.MergeIdeal.τ).loc Cert.MergeIdeal.main_arg2)) (m ((c.tc : Thread Cert.MergeIdeal.nD Cert.MergeIdeal.τ).loc Cert.MergeIdeal.main_arg3))
            (m ((c.tc : Thread Cert.MergeIdeal.nD Cert.MergeIdeal.τ).loc Cert.MergeIdeal.main_arg4)) (m ((c.tc : Thread Cert.MergeIdeal.nD Cert.MergeIdeal.τ).loc Cert.MergeIdeal.main_arg5))
            (m ((c.tc : Thread Cert.MergeIdeal.nD Cert.MergeIdeal.τ).loc Cert.MergeIdeal.main_arg6)) (m ((c.tc : Thread Cert.MergeIdeal.nD Cert.MergeIdeal.τ).loc Cert.MergeIdeal.main_arg7)))
          (m ((c.tc : Thread Cert.MergeIdeal.nD Cert.MergeIdeal.τ).loc Cert.MergeIdeal.main_arg8)) (m ((c.tc : Thread Cert.MergeIdeal.nD Cert.MergeIdeal.τ).loc Cert.MergeIdeal.main_arg9)))
          (m ((c.tc : Thread Cert.MergeIdeal.nD Cert.MergeIdeal.τ).loc Cert.MergeIdeal.main_arg10)) (m ((c.tc : Thread Cert.MergeIdeal.nD Cert.MergeIdeal.τ).loc Cert.MergeIdeal.main_arg11)) := by
  rw [Cert.MergeIdeal.InMerge.final, Cert.MergeIdeal.InMerge.y0_eq, Cert.MergeIdeal.InMerge.y1_eq, Cert.MergeIdeal.InMerge.y2_eq, Cert.MergeIdeal.InMerge.logits_eq,
    Cert.MergeIdeal.InMerge.bias_eq, Cert.MergeIdeal.InMerge.stacked_eq, Cert.MergeIdeal.InMerge.outer_eq, Cert.MergeIdeal.InMerge.scale_eq,
    Cert.MergeIdeal.InMerge.shift_eq, Cert.MergeIdeal.Gen.V_main_arg9, Cert.MergeIdeal.InMerge.equation]

/-- The idealized kernel's run meets the reference's on the merged rows. -/
theorem algebraic_merge : Cert.algebraic_MergeIdeal_MergeReferenceIdeal (hMergeIdeal := Cert.MergeIdeal.Gen.facts)
    (hMergeReferenceIdeal := Cert.MergeReferenceIdeal.Gen.facts) := by
  pair_intro
  · run_from Cert.MergeIdeal.Value.run_blocks m g
  · run_from Cert.MergeReferenceIdeal.Value.run m' g'
    obtain ⟨h0, h1, h2, h3, h4, h5, h6, h7, h8, h9, h10, h11, -⟩ := hagree c
    refine Eq.trans ?_ (result_merge m c).symm
    rw [← h0, ← h1, ← h2, ← h3, ← h4, ← h5, ← h6, ← h7, ← h8, ← h9, ← h10, ← h11]
    exact Cert.MergeReferenceIdeal.InMerge.res_eq m' c

/-- The frame of the reference of the input norm. -/
theorem frame_entry : Cert.quiescent_EntryReferenceIdeal (hEntryReferenceIdeal := Cert.EntryReferenceIdeal.Gen.facts) := fun m ρ _ =>
  (θ_run _ _ _).mono (fun r h => ⟨fun c => (h c).2.2, sem_eq_zero_of_no_sems (by decide) r.2⟩)
    (Cert.EntryReferenceIdeal.Value.run m ρ)

/-- The kernel's normed rows are the reference's. -/
theorem result_entry (m : (ℓ : Loc Cert.EntryIdeal.nD Cert.EntryIdeal.τ Cert.EntryIdeal.sig) → Buf (Elt Ideal) ℓ) (c : Dev Cert.EntryIdeal.nD) :
    (Cert.EntryIdeal.Gen.dats m 0 c).arrAt 3 Cert.EntryIdeal.cfg0.N
      = Cert.EntryReferenceIdeal.InEntry.norm (m ((c.tc : Thread Cert.EntryIdeal.nD Cert.EntryIdeal.τ).loc Cert.EntryIdeal.main_arg0))
        (m ((c.tc : Thread Cert.EntryIdeal.nD Cert.EntryIdeal.τ).loc Cert.EntryIdeal.main_arg1)) (m ((c.tc : Thread Cert.EntryIdeal.nD Cert.EntryIdeal.τ).loc Cert.EntryIdeal.main_arg2)) := by
  rw [Cert.EntryIdeal.InEntry.final, Cert.EntryIdeal.InEntry.scale_eq, Cert.EntryIdeal.InEntry.shift_eq, Cert.EntryIdeal.Gen.V_main_arg0,
    Cert.InEntry.equation]

/-- The kernel's narrowed rows are the reference's. -/
theorem result_narrow (m : (ℓ : Loc Cert.EntryIdeal.nD Cert.EntryIdeal.τ Cert.EntryIdeal.sig) → Buf (Elt Ideal) ℓ) (c : Dev Cert.EntryIdeal.nD) :
    (Cert.EntryIdeal.Gen.dats m 0 c).arrAt 4 Cert.EntryIdeal.cfg0.N
      = Cert.EntryReferenceIdeal.InEntry.narrow (m ((c.tc : Thread Cert.EntryIdeal.nD Cert.EntryIdeal.τ).loc Cert.EntryIdeal.main_arg0))
        (m ((c.tc : Thread Cert.EntryIdeal.nD Cert.EntryIdeal.τ).loc Cert.EntryIdeal.main_arg1)) (m ((c.tc : Thread Cert.EntryIdeal.nD Cert.EntryIdeal.τ).loc Cert.EntryIdeal.main_arg2)) := by
  rw [Cert.EntryIdeal.InEntry.final_narrow, Cert.EntryIdeal.InEntry.scale_eq, Cert.EntryIdeal.InEntry.shift_eq, Cert.EntryIdeal.Gen.V_main_arg0,
    Cert.InEntry.equation]
  rfl

/-- The idealized kernel's run meets the reference's on both results of the input norm. -/
theorem algebraic_entry : Cert.algebraic_EntryIdeal_EntryReferenceIdeal (hEntryIdeal := Cert.EntryIdeal.Gen.facts)
    (hEntryReferenceIdeal := Cert.EntryReferenceIdeal.Gen.facts) := by
  pair_intro
  · run_from Cert.EntryIdeal.Value.run_blocks m g
  · run_from Cert.EntryReferenceIdeal.Value.run m' g'
    · exact (result_entry m c).symm
    · exact (result_narrow m c).symm

/-- All the claims together. -/
theorem claim : Cert.Claim := ⟨Cert.Kernel.Gen.facts, Cert.KernelIdeal.Gen.facts, Cert.ReferenceIdeal.Gen.facts, Cert.Main.Gen.facts, Cert.MainIdeal.Gen.facts, Cert.MainReferenceIdeal.Gen.facts, Cert.Gate.Gen.facts, Cert.GateIdeal.Gen.facts, Cert.GateReferenceIdeal.Gen.facts, Cert.Latent.Gen.facts, Cert.LatentIdeal.Gen.facts, Cert.LatentReferenceIdeal.Gen.facts, Cert.Merge.Gen.facts, Cert.MergeIdeal.Gen.facts, Cert.MergeReferenceIdeal.Gen.facts, Cert.Entry.Gen.facts, Cert.EntryIdeal.Gen.facts, Cert.EntryReferenceIdeal.Gen.facts, Cert.Attn.pre_facts,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial,
  fun m ρ _ => Cert.Main.Gen.frame m ρ, fun m ρ _ => Cert.MainIdeal.Gen.frame m ρ, frame_main,
  fun m ρ _ => Cert.Gate.Gen.frame m ρ, fun m ρ _ => Cert.GateIdeal.Gen.frame m ρ, frame_gate,
  fun m ρ _ => Cert.Latent.Gen.frame m ρ, fun m ρ _ => Cert.LatentIdeal.Gen.frame m ρ, frame_latent,
  fun m ρ _ => Cert.Merge.Gen.frame m ρ, fun m ρ _ => Cert.MergeIdeal.Gen.frame m ρ, frame_merge,
  fun m ρ _ => Cert.Entry.Gen.frame m ρ, fun m ρ _ => Cert.EntryIdeal.Gen.frame m ρ, frame_entry,
  trivial, algebraic, trivial, algebraic_main, trivial, algebraic_gate, trivial, algebraic_latent, trivial, algebraic_merge, trivial, algebraic_entry⟩

end Cert.Proof

end
